-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_bins_in_range_and_runs [hPre_bins_in_range_and_runs : Cert.Pre_bins_in_range_and_runs.Facts] (m : (ℓ : Loc Cert.KernelIdeal.nD Cert.KernelIdeal.τ Cert.KernelIdeal.sig) → Buf (Elt Ideal) ℓ) : Prop :=
  ∀ c : Dev Cert.KernelIdeal.nD,
    (Cert.Pre_bins_in_range_and_runs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_bins_in_range_and_runs [hPre_bins_in_range_and_runs : Cert.Pre_bins_in_range_and_runs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_bins_in_range_and_runs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_bins_in_range_and_runs [hKernelIdeal : Cert.KernelIdeal.Facts] [hPre_bins_in_range_and_runs : Cert.Pre_bins_in_range_and_runs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_bins_in_range_and_runs m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_bins_in_range_and_runs [hReferenceIdeal : Cert.ReferenceIdeal.Facts] [hPre_bins_in_range_and_runs : Cert.Pre_bins_in_range_and_runs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_bins_in_range_and_runs m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_bins_in_range_and_runs [hKernelIdeal : Cert.KernelIdeal.Facts] [hReferenceIdeal : Cert.ReferenceIdeal.Facts] [hPre_bins_in_range_and_runs : Cert.Pre_bins_in_range_and_runs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_bins_in_range_and_runs m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v57_0)) (v1 : (c : Dev Cert.KernelIdeal.nD) → Buf (Elt Ideal) ((c.tc : Thread Cert.KernelIdeal.nD Cert.KernelIdeal.τ).loc Cert.KernelIdeal.main_v57_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v57_0) = v0 c
          ∧ r.2.mem ((c.tc : Thread Cert.KernelIdeal.nD Cert.KernelIdeal.τ).loc Cert.KernelIdeal.main_v57_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v22) = v0 c
          ∧ r.2.mem ((c.tc : Thread Cert.ReferenceIdeal.nD Cert.ReferenceIdeal.τ).loc Cert.ReferenceIdeal.main_v22) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_bins_in_range_and_runs : Cert.Pre_bins_in_range_and_runs.Facts),
    quiescent_Kernel (hKernel := hKernel)
    ∧ quiescent_KernelIdeal (hKernelIdeal := hKernelIdeal)
    ∧ quiescent_KernelIdeal_pre_bins_in_range_and_runs (hKernelIdeal := hKernelIdeal) (hPre_bins_in_range_and_runs := hPre_bins_in_range_and_runs)
    ∧ quiescent_ReferenceIdeal (hReferenceIdeal := hReferenceIdeal)
    ∧ quiescent_ReferenceIdeal_pre_bins_in_range_and_runs (hReferenceIdeal := hReferenceIdeal) (hPre_bins_in_range_and_runs := hPre_bins_in_range_and_runs)
    ∧ preserves_Kernel_KernelIdeal
    ∧ algebraic_KernelIdeal_ReferenceIdeal_pre_bins_in_range_and_runs (hKernelIdeal := hKernelIdeal) (hReferenceIdeal := hReferenceIdeal) (hPre_bins_in_range_and_runs := hPre_bins_in_range_and_runs)
-- ==== Pre_bins_in_range_and_runs.lean ====
abbrev S32x128x4096 : Shape := ⟨3, ![32, 128, 4096]⟩
abbrev S88 : Shape := ⟨1, ![88]⟩
abbrev S87 : Shape := ⟨1, ![87]⟩
abbrev S_ : Shape := ⟨0, ![]⟩

class Facts : Prop where
  slices_S88_S87_1 : S88.Slices ![1] S87
  slices_S88_S87_0 : S88.Slices ![0] S87
  natLt_1_32 : 1 < 32
  reducesTo_S87_S_d0 : S87.ReducesTo [0] S_
  h_S_ : 0 < S_.numel
  bcast_S_S88 : S_.BroadcastsInDim S88 (![] : Fin 0 → Fin S88.rank)

variable [Facts]

def fn {F : FTy → Type} [FloatOps F] (main_arg0 : FVec F S32x128x4096 .f32) (main_arg1 : IVec S88 32) : IVec S88 1 :=
  let main_v0 : IVec S87 32 := (extractStridedSlice S87 ![1] · slices_S88_S87_1) main_arg1
  let main_v1 : IVec S87 32 := (extractStridedSlice S87 ![0] · slices_S88_S87_0) main_arg1
  let main_v2 : IVec S87 1 := cmpi .ne main_v0 main_v1
  let main_v3 : IVec S87 32 := (extui 32 · natLt_1_32) main_v2
  let main_c : IVec S_ 32 := constantI S_ 32 0#32
  let main_v4 : IVec S_ 32 := (fun x v => Host.reduce IntOp.addi x v reducesTo_S87_S_d0 h_S_) main_v3 main_c
  let main_c_0 : IVec S_ 32 := constantI S_ 32 0#32
  let main_v5 : IVec S88 32 := broadcastInDim S88 ![] bcast_S_S88 main_c_0
  let main_v6 : IVec S88 1 := cmpi .sge main_arg1 main_v5
  let main_c_1 : IVec S_ 32 := constantI S_ 32 128#32
  let main_v7 : IVec S88 32 := broadcastInDim S88 ![] bcast_S_S88 main_c_1
  let main_v8 : IVec S88 1 := cmpi .slt main_arg1 main_v7
  let main_v9 : IVec S88 1 := andi main_v6 main_v8
  let main_c_2 : IVec S_ 32 := constantI S_ 32 64#32
  let main_v10 : IVec S_ 1 := cmpi .slt main_v4 main_c_2
  let main_v11 : IVec S88 1 := broadcastInDim S88 ![] bcast_S_S88 main_v10
  let main_v12 : IVec S88 1 := andi main_v9 main_v11
  main_v12
-- ==== Kernel.lean ====
abbrev S32x128x4096 : Shape := ⟨3, ![32, 128, 4096]⟩
abbrev S88 : Shape := ⟨1, ![88]⟩
abbrev S_ : Shape := ⟨0, ![]⟩
abbrev S1 : Shape := ⟨1, ![1]⟩
abbrev S87 : Shape := ⟨1, ![87]⟩
abbrev S88x1 : Shape := ⟨2, ![88, 1]⟩
abbrev S64 : Shape := ⟨1, ![64]⟩
abbrev S1x64 : Shape := ⟨2, ![1, 64]⟩
abbrev S88x64 : Shape := ⟨2, ![88, 64]⟩
abbrev S64x1 : Shape := ⟨2, ![64, 1]⟩
abbrev S1x128 : Shape := ⟨2, ![1, 128]⟩
abbrev S64x128 : Shape := ⟨2, ![64, 128]⟩
abbrev S192x128 : Shape := ⟨2, ![192, 128]⟩
abbrev S32x88x4096 : Shape := ⟨3, ![32, 88, 4096]⟩
abbrev S1x128x4096 : Shape := ⟨3, ![1, 128, 4096]⟩
abbrev S1x88x4096 : Shape := ⟨3, ![1, 88, 4096]⟩
abbrev S128x4096 : Shape := ⟨2, ![128, 4096]⟩
abbrev S192x4096 : Shape := ⟨2, ![192, 4096]⟩
abbrev S64x4096 : Shape := ⟨2, ![64, 4096]⟩
abbrev S4096 : Shape := ⟨1, ![4096]⟩
abbrev S1x4096 : Shape := ⟨2, ![1, 4096]⟩
abbrev S88x4096 : Shape := ⟨2, ![88, 4096]⟩

abbrev nBuf : Space → Nat
  | .hbm => 100
  | .vmem => 11
  | .smem => 0
  | _ => 0

abbrev bufTy : (tb : Table) → Fin (tcTables nBuf tb) → BufTy
  | .hbm, ⟨0, _⟩ => ⟨S32x128x4096, .f32⟩
  | .hbm, ⟨1, _⟩ => ⟨S88, .i32⟩
  | .hbm, ⟨2, _⟩ => ⟨S_, .i32⟩
  | .hbm, ⟨3, _⟩ => ⟨S1, .i32⟩
  | .hbm, ⟨4, _⟩ => ⟨S87, .i32⟩
  | .hbm, ⟨5, _⟩ => ⟨S87, .i32⟩
  | .hbm, ⟨6, _⟩ => ⟨S87, .i1⟩
  | .hbm, ⟨7, _⟩ => ⟨S87, .i32⟩
  | .hbm, ⟨8, _⟩ => ⟨S88, .i32⟩
  | .hbm, ⟨9, _⟩ => ⟨S_, .i32⟩
  | .hbm, ⟨10, _⟩ => ⟨S_, .i32⟩
  | .hbm, ⟨11, _⟩ => ⟨S88, .i32⟩
  | .hbm, ⟨12, _⟩ => ⟨S_, .i32⟩
  | .hbm, ⟨13, _⟩ => ⟨S88, .i32⟩
  | .hbm, ⟨14, _⟩ => ⟨S88, .i32⟩
  | .hbm, ⟨15, _⟩ => ⟨S88x1, .i32⟩
  | .hbm, ⟨16, _⟩ => ⟨S64, .i32⟩
  | .hbm, ⟨17, _⟩ => ⟨S1x64, .i32⟩
  | .hbm, ⟨18, _⟩ => ⟨S88x64, .i32⟩
  | .hbm, ⟨19, _⟩ => ⟨S88x64, .i32⟩
  | .hbm, ⟨20, _⟩ => ⟨S88x64, .i1⟩
  | .hbm, ⟨21, _⟩ => ⟨S88x64, .f32⟩
  | .hbm, ⟨22, _⟩ => ⟨S88x64, .bf16⟩
  | .hbm, ⟨23, _⟩ => ⟨S_, .f32⟩
  | .hbm, ⟨24, _⟩ => ⟨S64, .f32⟩
  | .hbm, ⟨25, _⟩ => ⟨S1x64, .f32⟩
  | .hbm, ⟨26, _⟩ => ⟨S88x1, .i32⟩
  | .hbm, ⟨27, _⟩ => ⟨S_, .i32⟩
  | .hbm, ⟨28, _⟩ => ⟨S88x1, .i32⟩
  | .hbm, ⟨29, _⟩ => ⟨S88x1, .i32⟩
  | .hbm, ⟨30, _⟩ => ⟨S88x1, .f32⟩
  | .hbm, ⟨31, _⟩ => ⟨S88x64, .f32⟩
  | .hbm, ⟨32, _⟩ => ⟨S88x64, .f32⟩
  | .hbm, ⟨33, _⟩ => ⟨S_, .f32⟩
  | .hbm, ⟨34, _⟩ => ⟨S64, .f32⟩
  | .hbm, ⟨35, _⟩ => ⟨S64, .i32⟩
  | .hbm, ⟨36, _⟩ => ⟨S_, .i32⟩
  | .hbm, ⟨37, _⟩ => ⟨S64, .i32⟩
  | .hbm, ⟨38, _⟩ => ⟨S64, .i32⟩
  | .hbm, ⟨39, _⟩ => ⟨S64x1, .i32⟩
  | .hbm, ⟨40, _⟩ => ⟨S1x128, .i32⟩
  | .hbm, ⟨41, _⟩ => ⟨S64x128, .i32⟩
  | .hbm, ⟨42, _⟩ => ⟨S64x128, .i32⟩
  | .hbm, ⟨43, _⟩ => ⟨S64x128, .i1⟩
  | .hbm, ⟨44, _⟩ => ⟨S64x128, .f32⟩
  | .hbm, ⟨45, _⟩ => ⟨S_, .i32⟩
  | .hbm, ⟨46, _⟩ => ⟨S64, .i32⟩
  | .hbm, ⟨47, _⟩ => ⟨S64, .i32⟩
  | .hbm, ⟨48, _⟩ => ⟨S64x1, .i32⟩
  | .hbm, ⟨49, _⟩ => ⟨S1x128, .i32⟩
  | .hbm, ⟨50, _⟩ => ⟨S64x128, .i32⟩
  | .hbm, ⟨51, _⟩ => ⟨S64x128, .i32⟩
  | .hbm, ⟨52, _⟩ => ⟨S64x128, .i1⟩
  | .hbm, ⟨53, _⟩ => ⟨S64x128, .f32⟩
  | .hbm, ⟨54, _⟩ => ⟨S_, .i32⟩
  | .hbm, ⟨55, _⟩ => ⟨S64, .i32⟩
  | .hbm, ⟨56, _⟩ => ⟨S64, .i32⟩
  | .hbm, ⟨57, _⟩ => ⟨S64x1, .i32⟩
  | .hbm, ⟨58, _⟩ => ⟨S1x128, .i32⟩
  | .hbm, ⟨59, _⟩ => ⟨S64x128, .i32⟩
  | .hbm, ⟨60, _⟩ => ⟨S64x128, .i32⟩
  | .hbm, ⟨61, _⟩ => ⟨S64x128, .i1⟩
  | .hbm, ⟨62, _⟩ => ⟨S64x128, .f32⟩
  | .hbm, ⟨63, _⟩ => ⟨S192x128, .f32⟩
  | .hbm, ⟨64, _⟩ => ⟨S_, .i32⟩
  | .hbm, ⟨65, _⟩ => ⟨S64, .i32⟩
  | .hbm, ⟨66, _⟩ => ⟨S64, .i32⟩
  | .hbm, ⟨67, _⟩ => ⟨S_, .i32⟩
  | .hbm, ⟨68, _⟩ => ⟨S64, .i32⟩
  | .hbm, ⟨69, _⟩ => ⟨S64, .i1⟩
  | .hbm, ⟨70, _⟩ => ⟨S_, .i32⟩
  | .hbm, ⟨71, _⟩ => ⟨S64, .i32⟩
  | .hbm, ⟨72, _⟩ => ⟨S64, .i1⟩
  | .hbm, ⟨73, _⟩ => ⟨S64, .i1⟩
  | .hbm, ⟨74, _⟩ => ⟨S_, .f32⟩
  | .hbm, ⟨75, _⟩ => ⟨S_, .f32⟩
  | .hbm, ⟨76, _⟩ => ⟨S64, .f32⟩
  | .hbm, ⟨77, _⟩ => ⟨S64, .f32⟩
  | .hbm, ⟨78, _⟩ => ⟨S64, .f32⟩
  | .hbm, ⟨79, _⟩ => ⟨S64, .f32⟩
  | .hbm, ⟨80, _⟩ => ⟨S64x1, .f32⟩
  | .hbm, ⟨81, _⟩ => ⟨S_, .i32⟩
  | .hbm, ⟨82, _⟩ => ⟨S64, .i32⟩
  | .hbm, ⟨83, _⟩ => ⟨S64, .i32⟩
  | .hbm, ⟨84, _⟩ => ⟨S_, .i32⟩
  | .hbm, ⟨85, _⟩ => ⟨S64, .i32⟩
  | .hbm, ⟨86, _⟩ => ⟨S64, .i1⟩
  | .hbm, ⟨87, _⟩ => ⟨S_, .i32⟩
  | .hbm, ⟨88, _⟩ => ⟨S64, .i32⟩
  | .hbm, ⟨89, _⟩ => ⟨S64, .i1⟩
  | .hbm, ⟨90, _⟩ => ⟨S64, .i1⟩
  | .hbm, ⟨91, _⟩ => ⟨S_, .f32⟩
  | .hbm, ⟨92, _⟩ => ⟨S_, .f32⟩
  | .hbm, ⟨93, _⟩ => ⟨S64, .f32⟩
  | .hbm, ⟨94, _⟩ => ⟨S64, .f32⟩
  | .hbm, ⟨95, _⟩ => ⟨S64, .f32⟩
  | .hbm, ⟨96, _⟩ => ⟨S64, .f32⟩
  | .hbm, ⟨97, _⟩ => ⟨S64x1, .f32⟩
  | .hbm, ⟨98, _⟩ => ⟨S32x88x4096, .f32⟩
  | .hbm, ⟨99, _⟩ => ⟨S32x88x4096, .f32⟩
  | .local _ .vmem, ⟨0, _⟩ => ⟨S192x128, .f32⟩
  | .local _ .vmem, ⟨1, _⟩ => ⟨S64x1, .f32⟩
  | .local _ .vmem, ⟨2, _⟩ => ⟨S64x1, .f32⟩
  | .local _ .vmem, ⟨3, _⟩ => ⟨S1x64, .f32⟩
  | .local _ .vmem, ⟨4, _⟩ => ⟨S88x64, .bf16⟩
  | .local _ .vmem, ⟨5, _⟩ => ⟨S1x128x4096, .f32⟩
  | .local _ .vmem, ⟨6, _⟩ => ⟨S1x128x4096, .f32⟩
  | .local _ .vmem, ⟨7, _⟩ => ⟨S1x88x4096, .f32⟩
  | .local _ .vmem, ⟨8, _⟩ => ⟨S1x88x4096, .f32⟩
  | .local _ .vmem, ⟨9, _⟩ => ⟨S1x88x4096, .f32⟩
  | .local _ .vmem, ⟨10, _⟩ => ⟨S1x88x4096, .f32⟩
  | _, _ => ⟨S32x128x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_call0_call0_c : Ref sig .tc := ⟨.hbm, 9, rfl⟩
abbrev main_call0_call0_v0 : Ref sig .tc := ⟨.hbm, 10, rfl⟩
abbrev main_v6 : Ref sig .tc := ⟨.hbm, 11, rfl⟩
abbrev main_c_0 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_v13 : Ref sig .tc := ⟨.hbm, 19, rfl⟩
abbrev main_v14 : Ref sig .tc := ⟨.hbm, 20, rfl⟩
abbrev main_v15 : Ref sig .tc := ⟨.hbm, 21, rfl⟩
abbrev main_v16 : Ref sig .tc := ⟨.hbm, 22, rfl⟩
abbrev main_cst : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_c_1 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_cst_2 : Ref sig .tc := ⟨.hbm, 33, rfl⟩
abbrev main_v25 : Ref sig .tc := ⟨.hbm, 34, rfl⟩
abbrev main_v26 : Ref sig .tc := ⟨.hbm, 35, rfl⟩
abbrev main_c_3 : Ref sig .tc := ⟨.hbm, 36, rfl⟩
abbrev main_v27 : Ref sig .tc := ⟨.hbm, 37, rfl⟩
abbrev main_v28 : Ref sig .tc := ⟨.hbm, 38, rfl⟩
abbrev main_call1_v0 : Ref sig .tc := ⟨.hbm, 39, rfl⟩
abbrev main_call1_v1 : Ref sig .tc := ⟨.hbm, 40, rfl⟩
abbrev main_call1_v2 : Ref sig .tc := ⟨.hbm, 41, rfl⟩
abbrev main_call1_v3 : Ref sig .tc := ⟨.hbm, 42, rfl⟩
abbrev main_call1_v4 : Ref sig .tc := ⟨.hbm, 43, rfl⟩
abbrev main_v29 : Ref sig .tc := ⟨.hbm, 44, rfl⟩
abbrev main_c_4 : Ref sig .tc := ⟨.hbm, 45, rfl⟩
abbrev main_v30 : Ref sig .tc := ⟨.hbm, 46, rfl⟩
abbrev main_v31 : Ref sig .tc := ⟨.hbm, 47, rfl⟩
abbrev main_call2_v0 : Ref sig .tc := ⟨.hbm, 48, rfl⟩
abbrev main_call2_v1 : Ref sig .tc := ⟨.hbm, 49, rfl⟩
abbrev main_call2_v2 : Ref sig .tc := ⟨.hbm, 50, rfl⟩
abbrev main_call2_v3 : Ref sig .tc := ⟨.hbm, 51, rfl⟩
abbrev main_call2_v4 : Ref sig .tc := ⟨.hbm, 52, rfl⟩
abbrev main_v32 : Ref sig .tc := ⟨.hbm, 53, rfl⟩
abbrev main_c_5 : Ref sig .tc := ⟨.hbm, 54, rfl⟩
abbrev main_v33 : Ref sig .tc := ⟨.hbm, 55, rfl⟩
abbrev main_v34 : Ref sig .tc := ⟨.hbm, 56, rfl⟩
abbrev main_call3_v0 : Ref sig .tc := ⟨.hbm, 57, rfl⟩
abbrev main_call3_v1 : Ref sig .tc := ⟨.hbm, 58, rfl⟩
abbrev main_call3_v2 : Ref sig .tc := ⟨.hbm, 59, rfl⟩
abbrev main_call3_v3 : Ref sig .tc := ⟨.hbm, 60, rfl⟩
abbrev main_call3_v4 : Ref sig .tc := ⟨.hbm, 61, rfl⟩
abbrev main_v35 : Ref sig .tc := ⟨.hbm, 62, rfl⟩
abbrev main_v36 : Ref sig .tc := ⟨.hbm, 63, rfl⟩
abbrev main_c_6 : Ref sig .tc := ⟨.hbm, 64, rfl⟩
abbrev main_v37 : Ref sig .tc := ⟨.hbm, 65, rfl⟩
abbrev main_v38 : Ref sig .tc := ⟨.hbm, 66, rfl⟩
abbrev main_c_7 : Ref sig .tc := ⟨.hbm, 67, rfl⟩
abbrev main_v39 : Ref sig .tc := ⟨.hbm, 68, rfl⟩
abbrev main_v40 : Ref sig .tc := ⟨.hbm, 69, rfl⟩
abbrev main_c_8 : Ref sig .tc := ⟨.hbm, 70, rfl⟩
abbrev main_v41 : Ref sig .tc := ⟨.hbm, 71, rfl⟩
abbrev main_v42 : Ref sig .tc := ⟨.hbm, 72, rfl⟩
abbrev main_v43 : Ref sig .tc := ⟨.hbm, 73, rfl⟩
abbrev main_cst_9 : Ref sig .tc := ⟨.hbm, 74, rfl⟩
abbrev main_cst_10 : Ref sig .tc := ⟨.hbm, 75, rfl⟩
abbrev main_call4_v0 : Ref sig .tc := ⟨.hbm, 76, rfl⟩
abbrev main_call4_v1 : Ref sig .tc := ⟨.hbm, 77, rfl⟩
abbrev main_v44 : Ref sig .tc := ⟨.hbm, 78, rfl⟩
abbrev main_v45 : Ref sig .tc := ⟨.hbm, 79, rfl⟩
abbrev main_v46 : Ref sig .tc := ⟨.hbm, 80, rfl⟩
abbrev main_c_11 : Ref sig .tc := ⟨.hbm, 81, rfl⟩
abbrev main_v47 : Ref sig .tc := ⟨.hbm, 82, rfl⟩
abbrev main_v48 : Ref sig .tc := ⟨.hbm, 83, rfl⟩
abbrev main_c_12 : Ref sig .tc := ⟨.hbm, 84, rfl⟩
abbrev main_v49 : Ref sig .tc := ⟨.hbm, 85, rfl⟩
abbrev main_v50 : Ref sig .tc := ⟨.hbm, 86, rfl⟩
abbrev main_c_13 : Ref sig .tc := ⟨.hbm, 87, rfl⟩
abbrev main_v51 : Ref sig .tc := ⟨.hbm, 88, rfl⟩
abbrev main_v52 : Ref sig .tc := ⟨.hbm, 89, rfl⟩
abbrev main_v53 : Ref sig .tc := ⟨.hbm, 90, rfl⟩
abbrev main_cst_14 : Ref sig .tc := ⟨.hbm, 91, rfl⟩
abbrev main_cst_15 : Ref sig .tc := ⟨.hbm, 92, rfl⟩
abbrev main_call5_v0 : Ref sig .tc := ⟨.hbm, 93, rfl⟩
abbrev main_call5_v1 : Ref sig .tc := ⟨.hbm, 94, rfl⟩
abbrev main_v54 : Ref sig .tc := ⟨.hbm, 95, rfl⟩
abbrev main_v55 : Ref sig .tc := ⟨.hbm, 96, rfl⟩
abbrev main_v56 : Ref sig .tc := ⟨.hbm, 97, rfl⟩
abbrev main_v57_0 : Ref sig .tc := ⟨.hbm, 98, rfl⟩
abbrev main_v57_1 : Ref sig .tc := ⟨.hbm, 99, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg5_1 : Ref sig .tc := ⟨.vmem, 6, rfl⟩
abbrev cc0_stg6_0 : Ref sig .tc := ⟨.vmem, 7, rfl⟩
abbrev cc0_stg6_1 : Ref sig .tc := ⟨.vmem, 8, rfl⟩
abbrev cc0_stg7_0 : Ref sig .tc := ⟨.vmem, 9, rfl⟩
abbrev cc0_stg7_1 : Ref sig .tc := ⟨.vmem, 10, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem5_1 : DmaSem sig := 6
abbrev cc0_sem6_0 : DmaSem sig := 7
abbrev cc0_sem6_1 : DmaSem sig := 8
abbrev cc0_sem7_0 : DmaSem sig := 9
abbrev cc0_sem7_1 : DmaSem sig := 10

abbrev nD : Nat := 1
abbrev τ : Topo := Topo.v7x

variable {F : FTy → Type} [FloatOps F]

abbrev grid0 : Pipeline.Grid := ⟨2, ![32, 1], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_6 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S192x128 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 1 → Memref sig .tc .vmem S64x1 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 1 → Memref sig .tc .vmem S64x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 1 → Memref sig .tc .vmem S1x64 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S88x64 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1x128x4096 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x88x4096 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S1x88x4096 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, true]
-- ==== ReferenceIdeal.lean ====
abbrev S32x128x4096 : Shape := ⟨3, ![32, 128, 4096]⟩
abbrev S88 : Shape := ⟨1, ![88]⟩
abbrev S32x64x4096 : Shape := ⟨3, ![32, 64, 4096]⟩
abbrev S32x43x4096 : Shape := ⟨3, ![32, 43, 4096]⟩
abbrev S32x85x4096 : Shape := ⟨3, ![32, 85, 4096]⟩
abbrev S_ : Shape := ⟨0, ![]⟩
abbrev S88x1 : Shape := ⟨2, ![88, 1]⟩
abbrev S32x88x4096 : Shape := ⟨3, ![32, 88, 4096]⟩
abbrev S32x4096 : Shape := ⟨2, ![32, 4096]⟩
abbrev S32x1x4096 : Shape := ⟨3, ![32, 1, 4096]⟩
abbrev S1 : Shape := ⟨1, ![1]⟩

abbrev nBuf : Space → Nat
  | .hbm => 73
  | .vmem => 0
  | .smem => 0
  | _ => 0

abbrev bufTy : (tb : Table) → Fin (tcTables nBuf tb) → BufTy
  | .hbm, ⟨0, _⟩ => ⟨S32x128x4096, .f32⟩
  | .hbm, ⟨1, _⟩ => ⟨S88, .i32⟩
  | .hbm, ⟨2, _⟩ => ⟨S32x128x4096, .f32⟩
  | .hbm, ⟨3, _⟩ => ⟨S32x64x4096, .f32⟩
  | .hbm, ⟨4, _⟩ => ⟨S32x64x4096, .f32⟩
  | .hbm, ⟨5, _⟩ => ⟨S32x64x4096, .f32⟩
  | .hbm, ⟨6, _⟩ => ⟨S32x64x4096, .f32⟩
  | .hbm, ⟨7, _⟩ => ⟨S32x128x4096, .f32⟩
  | .hbm, ⟨8, _⟩ => ⟨S32x43x4096, .f32⟩
  | .hbm, ⟨9, _⟩ => ⟨S32x43x4096, .f32⟩
  | .hbm, ⟨10, _⟩ => ⟨S32x43x4096, .f32⟩
  | .hbm, ⟨11, _⟩ => ⟨S32x85x4096, .f32⟩
  | .hbm, ⟨12, _⟩ => ⟨S32x128x4096, .f32⟩
  | .hbm, ⟨13, _⟩ => ⟨S_, .i32⟩
  | .hbm, ⟨14, _⟩ => ⟨S88, .i32⟩
  | .hbm, ⟨15, _⟩ => ⟨S88, .i1⟩
  | .hbm, ⟨16, _⟩ => ⟨S_, .i32⟩
  | .hbm, ⟨17, _⟩ => ⟨S88, .i32⟩
  | .hbm, ⟨18, _⟩ => ⟨S88, .i32⟩
  | .hbm, ⟨19, _⟩ => ⟨S88, .i32⟩
  | .hbm, ⟨20, _⟩ => ⟨S88x1, .i32⟩
  | .hbm, ⟨21, _⟩ => ⟨S32x88x4096, .f32⟩
  | .hbm, ⟨22, _⟩ => ⟨S_, .f32⟩
  | .hbm, ⟨23, _⟩ => ⟨S_, .f32⟩
  | .hbm, ⟨24, _⟩ => ⟨S_, .f32⟩
  | .hbm, ⟨25, _⟩ => ⟨S32x88x4096, .i1⟩
  | .hbm, ⟨26, _⟩ => ⟨S_, .i1⟩
  | .hbm, ⟨27, _⟩ => ⟨S32x4096, .i1⟩
  | .hbm, ⟨28, _⟩ => ⟨S32x1x4096, .i1⟩
  | .hbm, ⟨29, _⟩ => ⟨S_, .f32⟩
  | .hbm, ⟨30, _⟩ => ⟨S_, .f32⟩
  | .hbm, ⟨31, _⟩ => ⟨S32x88x4096, .i1⟩
  | .hbm, ⟨32, _⟩ => ⟨S32x88x4096, .f32⟩
  | .hbm, ⟨33, _⟩ => ⟨S32x88x4096, .f32⟩
  | .hbm, ⟨34, _⟩ => ⟨S32x88x4096, .f32⟩
  | .hbm, ⟨35, _⟩ => ⟨S_, .f32⟩
  | .hbm, ⟨36, _⟩ => ⟨S_, .f32⟩
  | .hbm, ⟨37, _⟩ => ⟨S_, .f32⟩
  | .hbm, ⟨38, _⟩ => ⟨S_, .f32⟩
  | .hbm, ⟨39, _⟩ => ⟨S_, .f32⟩
  | .hbm, ⟨40, _⟩ => ⟨S_, .f32⟩
  | .hbm, ⟨41, _⟩ => ⟨S_, .f32⟩
  | .hbm, ⟨42, _⟩ => ⟨S_, .f32⟩
  | .hbm, ⟨43, _⟩ => ⟨S_, .f32⟩
  | .hbm, ⟨44, _⟩ => ⟨S_, .f32⟩
  | .hbm, ⟨45, _⟩ => ⟨S_, .f32⟩
  | .hbm, ⟨46, _⟩ => ⟨S_, .f32⟩
  | .hbm, ⟨47, _⟩ => ⟨S_, .f32⟩
  | .hbm, ⟨48, _⟩ => ⟨S_, .f32⟩
  | .hbm, ⟨49, _⟩ => ⟨S_, .f32⟩
  | .hbm, ⟨50, _⟩ => ⟨S_, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .i32⟩
  | .hbm, ⟨55, _⟩ => ⟨S_, .i32⟩
  | .hbm, ⟨56, _⟩ => ⟨S1, .i32⟩
  | .hbm, ⟨57, _⟩ => ⟨S32x1x4096, .f32⟩
  | .hbm, ⟨58, _⟩ => ⟨S1, .i32⟩
  | .hbm, ⟨59, _⟩ => ⟨S32x1x4096, .f32⟩
  | .hbm, ⟨60, _⟩ => ⟨S32x1x4096, .f32⟩
  | .hbm, ⟨61, _⟩ => ⟨S32x1x4096, .f32⟩
  | .hbm, ⟨62, _⟩ => ⟨S32x1x4096, .f32⟩
  | .hbm, ⟨63, _⟩ => ⟨S32x1x4096, .f32⟩
  | .hbm, ⟨64, _⟩ => ⟨S32x1x4096, .f32⟩
  | .hbm, ⟨65, _⟩ => ⟨S32x88x4096, .f32⟩
  | .hbm, ⟨66, _⟩ => ⟨S32x88x4096, .i1⟩
  | .hbm, ⟨67, _⟩ => ⟨S_, .f32⟩
  | .hbm, ⟨68, _⟩ => ⟨S_, .f32⟩
  | .hbm, ⟨69, _⟩ => ⟨S32x88x4096, .f32⟩
  | .hbm, ⟨70, _⟩ => ⟨S32x88x4096, .f32⟩
  | .hbm, ⟨71, _⟩ => ⟨S32x88x4096, .f32⟩
  | .hbm, ⟨72, _⟩ => ⟨S32x88x4096, .f32⟩
  | _, _ => ⟨S32x128x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩
abbrev main_v3 : Ref sig .tc := ⟨.hbm, 5, rfl⟩
abbrev main_v4 : Ref sig .tc := ⟨.hbm, 6, rfl⟩
abbrev main_v5 : Ref sig .tc := ⟨.hbm, 7, rfl⟩
abbrev main_v6 : Ref sig .tc := ⟨.hbm, 8, rfl⟩
abbrev main_v7 : Ref sig .tc := ⟨.hbm, 9, rfl⟩
abbrev main_v8 : Ref sig .tc := ⟨.hbm, 10, rfl⟩
abbrev main_v9 : Ref sig .tc := ⟨.hbm, 11, rfl⟩
abbrev main_v10 : Ref sig .tc := ⟨.hbm, 12, rfl⟩
abbrev main_c : Ref sig .tc := ⟨.hbm, 13, rfl⟩
abbrev main_v11 : Ref sig .tc := ⟨.hbm, 14, rfl⟩
abbrev main_v12 : Ref sig .tc := ⟨.hbm, 15, rfl⟩
abbrev main_c_0 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_cst : Ref sig .tc := ⟨.hbm, 22, rfl⟩
abbrev main_call0_cst : Ref sig .tc := ⟨.hbm, 23, rfl⟩
abbrev main_call0_v0 : Ref sig .tc := ⟨.hbm, 24, rfl⟩
abbrev main_call0_call0_v0 : Ref sig .tc := ⟨.hbm, 25, rfl⟩
abbrev main_call0_call0_c : Ref sig .tc := ⟨.hbm, 26, rfl⟩
abbrev main_call0_call0_v1 : Ref sig .tc := ⟨.hbm, 27, rfl⟩
abbrev main_call0_call0_v2 : Ref sig .tc := ⟨.hbm, 28, rfl⟩
abbrev main_call0_call0_cst : Ref sig .tc := ⟨.hbm, 29, rfl⟩
abbrev main_call0_call0_call0_v0 : Ref sig .tc := ⟨.hbm, 30, rfl⟩
abbrev main_call0_call0_call0_v1 : Ref sig .tc := ⟨.hbm, 31, rfl⟩
abbrev main_call0_call0_call0_v2 : Ref sig .tc := ⟨.hbm, 32, rfl⟩
abbrev main_call0_call0_v3 : Ref sig .tc := ⟨.hbm, 33, rfl⟩
abbrev main_call0_call0_v4 : Ref sig .tc := ⟨.hbm, 34, rfl⟩
abbrev main_call0_call0_cst_0 : Ref sig .tc := ⟨.hbm, 35, rfl⟩
abbrev main_call0_call0_cst_1 : Ref sig .tc := ⟨.hbm, 36, rfl⟩
abbrev main_call0_call0_v5 : Ref sig .tc := ⟨.hbm, 37, rfl⟩
abbrev main_call0_call0_v6 : Ref sig .tc := ⟨.hbm, 38, rfl⟩
abbrev main_call0_call0_v7 : Ref sig .tc := ⟨.hbm, 39, rfl⟩
abbrev main_call0_call0_v8 : Ref sig .tc := ⟨.hbm, 40, rfl⟩
abbrev main_call0_call0_v9 : Ref sig .tc := ⟨.hbm, 41, rfl⟩
abbrev main_call0_call0_cst_2 : Ref sig .tc := ⟨.hbm, 42, rfl⟩
abbrev main_call0_call0_v10 : Ref sig .tc := ⟨.hbm, 43, rfl⟩
abbrev main_call0_call0_cst_3 : Ref sig .tc := ⟨.hbm, 44, rfl⟩
abbrev main_call0_call0_cst_4 : Ref sig .tc := ⟨.hbm, 45, rfl⟩
abbrev main_call0_call0_v11 : Ref sig .tc := ⟨.hbm, 46, rfl⟩
abbrev main_call0_call0_cst_5 : Ref sig .tc := ⟨.hbm, 47, rfl⟩
abbrev main_call0_call0_v12 : Ref sig .tc := ⟨.hbm, 48, rfl⟩
abbrev main_call0_call0_cst_6 : Ref sig .tc := ⟨.hbm, 49, rfl⟩
abbrev main_call0_call0_cst_7 : Ref sig .tc := ⟨.hbm, 50, rfl⟩
abbrev main_call0_call0_v13 : Ref sig .tc := ⟨.hbm, 51, rfl⟩
abbrev main_call0_call0_cst_8 : Ref sig .tc := ⟨.hbm, 52, rfl⟩
abbrev main_call0_call0_v14 : Ref sig .tc := ⟨.hbm, 53, rfl⟩
abbrev main_call0_call0_v15 : Ref sig .tc := ⟨.hbm, 54, rfl⟩
abbrev main_call0_call0_v16 : Ref sig .tc := ⟨.hbm, 55, rfl⟩
abbrev main_call0_call0_v17 : Ref sig .tc := ⟨.hbm, 56, rfl⟩
abbrev main_call0_call0_v18 : Ref sig .tc := ⟨.hbm, 57, rfl⟩
abbrev main_call0_call0_v19 : Ref sig .tc := ⟨.hbm, 58, rfl⟩
abbrev main_call0_call0_v20 : Ref sig .tc := ⟨.hbm, 59, rfl⟩
abbrev main_call0_call0_v21 : Ref sig .tc := ⟨.hbm, 60, rfl⟩
abbrev main_call0_call0_v22 : Ref sig .tc := ⟨.hbm, 61, rfl⟩
abbrev main_call0_call0_v23 : Ref sig .tc := ⟨.hbm, 62, rfl⟩
abbrev main_call0_call0_v24 : Ref sig .tc := ⟨.hbm, 63, rfl⟩
abbrev main_v18 : Ref sig .tc := ⟨.hbm, 64, rfl⟩
abbrev main_v19 : Ref sig .tc := ⟨.hbm, 65, rfl⟩
abbrev main_v20 : Ref sig .tc := ⟨.hbm, 66, rfl⟩
abbrev main_cst_1 : Ref sig .tc := ⟨.hbm, 67, rfl⟩
abbrev main_cst_2 : Ref sig .tc := ⟨.hbm, 68, rfl⟩
abbrev main_call1_v0 : Ref sig .tc := ⟨.hbm, 69, rfl⟩
abbrev main_call1_v1 : Ref sig .tc := ⟨.hbm, 70, rfl⟩
abbrev main_v21 : Ref sig .tc := ⟨.hbm, 71, rfl⟩
abbrev main_v22 : Ref sig .tc := ⟨.hbm, 72, rfl⟩

abbrev nD : Nat := 1
abbrev τ : Topo := Topo.v7x

variable {F : FTy → Type} [FloatOps F]
-- ==== Proof.HostArrays.lean ====
/- The arrays the kernel's host code hands to the launch, as terms over the key bins: the run number of each
   key, the key matrix, the multiplicity and the bin of each run, and the three selection matrices with the
   two columns that stand in for a missing overtone. -/
module

public import proofs.«01_k».proof.Proof.Gen.KernelIdeal.Frame
public import Idealize.ShloMosaic.Lib.StableHlo.ReadAt

@[expose] public section

set_option maxRecDepth 16384

noncomputable section

namespace Cert.Proof.HostArrays

open Idealize.ShloMosaic Idealize.ShloMosaic.TcCoe Idealize.ShloMosaic.StableHlo Cert.KernelIdeal Cert.KernelIdeal.Gen

variable {F : FTy → Type} [FloatOps F]

/-- One at the first key of each run of equal bins (the first key of all included), zero elsewhere. -/
def starts (kb : IVec S88 32) : IVec S88 32 :=
  concatenate S88 0 [⟨S1, broadcastInDim S1 ![] bcast_S_S1 (constantI S_ 32 1#32)⟩,
    ⟨S87, extui 32 (cmpi .ne (extractStridedSlice S87 ![1] kb slices_S88_S87_1)
      (extractStridedSlice S87 ![0] kb slices_S88_S87_0)) natLt_1_32⟩] concatenates_S1_S87_S88_d0

/-- The number of the run each key belongs to, from zero. -/
def runs (kb : IVec S88 32) : IVec S88 32 :=
  subi (Host.reduceWindow IntOp.addi ![88] ![1] ![87] ![0] (starts kb)
    (broadcastInDim S_ ![] bcast_S_S_ (constantI S_ 32 0#32)) reduceWindows_S88_S88_w88s1p87_0 h_S_)
    (broadcastInDim S88 ![] bcast_S_S88 (constantI S_ 32 1#32))

/-- The key matrix: one where the key belongs to the run. -/
def keys (kb : IVec S88 32) : FVec F S88x64 .f32 :=
  uitofp .f32 (cmpi .eq
    (broadcastInDim S88x64 ![0, 1] bcast_S88x1_S88x64_0_1 (broadcastInDim S88x1 ![0] bcast_S88_S88x1_0 (runs kb)))
    (broadcastInDim S88x64 ![0, 1] bcast_S1x64_S88x64_0_1
      (broadcastInDim S1x64 ![1] bcast_S64_S1x64_1 (iotaInDim S64 32 0))))

/-- How many keys each run has. -/
def keysPerRun (kb : IVec S88 32) : FVec F S1x64 .f32 :=
  broadcastInDim S1x64 ![1] bcast_S64_S1x64_1
    (Host.reduceAdd (keys kb) (constant S_ .f32 0x00000000#32) reducesTo_S88x64_S64_d0 h_S_)

/-- The bin of each run; minus one for a number no run has. -/
def bins (F : FTy → Type) [FloatOps F] (kb : IVec S88 32) : IVec S64 32 :=
  subi (fptosi 32 (Host.reduce FloatOps.maximumf
      (mulf (keys (F := F) kb) (broadcastInDim S88x64 ![0, 1] bcast_S88x1_S88x64_0_1
        (sitofp .f32 (addi (broadcastInDim S88x1 ![0] bcast_S88_S88x1_0 kb)
          (broadcastInDim S88x1 ![] bcast_S_S88x1 (constantI S_ 32 1#32))))))
      (constant S_ .f32 0xFF800000#32) reducesTo_S88x64_S64_d0 h_S_))
    (broadcastInDim S64 ![] bcast_S_S64 (constantI S_ 32 1#32))

/-- The bins times a whole number. -/
def times (k : BitVec 32) (u : IVec S64 32) : IVec S64 32 :=
  muli (broadcastInDim S64 ![] bcast_S_S64 (constantI S_ 32 k)) u

/-- The matrix that selects, for each run, the bin given. -/
def picks (u : IVec S64 32) : FVec F S64x128 .f32 :=
  uitofp .f32 (cmpi .eq
    (broadcastInDim S64x128 ![0, 1] bcast_S64x1_S64x128_0_1 (broadcastInDim S64x1 ![0] bcast_S64_S64x1_0 u))
    (broadcastInDim S64x128 ![0, 1] bcast_S1x128_S64x128_0_1 (iotaInDim S1x128 32 1)))

/-- The three selection matrices, one below the other. -/
def selection (u : IVec S64 32) : FVec F S192x128 .f32 :=
  concatenate S192x128 0 [⟨S64x128, picks u⟩, ⟨S64x128, picks (times 2#32 u)⟩, ⟨S64x128, picks (times 3#32 u)⟩]
    concatenates_S64x128_S64x128_S64x128_S192x128_d0

/-- Zero where the overtone is on the axis, one where it is not. -/
def standin (k : BitVec 32) (u : IVec S64 32) : FVec F S64x1 .f32 :=
  broadcastInDim S64x1 ![0] bcast_S64_S64x1_0
    (select (andi (cmpi .slt (times k u) (broadcastInDim S64 ![] bcast_S_S64 (constantI S_ 32 128#32)))
        (cmpi .sge u (broadcastInDim S64 ![] bcast_S_S64 (constantI S_ 32 0#32))))
      (broadcastInDim S64 ![] bcast_S_S64 (constant S_ .f32 0x00000000#32))
      (broadcastInDim S64 ![] bcast_S_S64 (constant S_ .f32 0x3F800000#32)))

variable (m : (ℓ : Loc nD τ sig) → Buf (Elt F) ℓ) (c : Dev nD)

/-- The key bins as launched. -/
abbrev binsArg : IVec S88 32 := m ((c : Thread nD τ).loc main_arg1)

/-- Three blocks below one another, each replaced by an equal one. -/
theorem stack_congr {a b c a' b' c' : FVec F S64x128 .f32} (ha : a = a') (hb : b = b') (hc : c = c') :
    concatenate S192x128 0 [⟨S64x128, a⟩, ⟨S64x128, b⟩, ⟨S64x128, c⟩] concatenates_S64x128_S64x128_S64x128_S192x128_d0
      = concatenate S192x128 0 [⟨S64x128, a'⟩, ⟨S64x128, b'⟩, ⟨S64x128, c'⟩]
          concatenates_S64x128_S64x128_S64x128_S192x128_d0 := by
  rw [ha, hb, hc]

/-- The launch finds the selection matrices of the runs' bins. -/
theorem V_selection : V m c main_v36 = selection (bins F (binsArg m c)) := by
  unfold V
  after_reads_simp
  refine stack_congr ?_ ?_ ?_
  · change upto _ _ 61 (Proc.devRef .tc main_v29) = _
    after_reads_simp
    all_goals try simp -implicitDefEqProofs only [StableHlo.TRef.toBuf, StableHlo.TRef.ofBuf, cast_cast, cast_eq]
    all_goals rfl
  · change upto _ _ 61 (Proc.devRef .tc main_v32) = _
    after_reads_simp
    all_goals try simp -implicitDefEqProofs only [StableHlo.TRef.toBuf, StableHlo.TRef.ofBuf, cast_cast, cast_eq]
    all_goals rfl
  · change upto _ _ 61 (Proc.devRef .tc main_v35) = _
    after_reads_simp
    all_goals try simp -implicitDefEqProofs only [StableHlo.TRef.toBuf, StableHlo.TRef.ofBuf, cast_cast, cast_eq]
    all_goals rfl

/-- The launch finds the stand-in column of the second harmonic. -/
theorem V_standin2 : V m c main_v46 = standin 2#32 (bins F (binsArg m c)) := by
  unfold V
  after_reads_simp
  all_goals try simp -implicitDefEqProofs only [StableHlo.TRef.toBuf, StableHlo.TRef.ofBuf, cast_cast, cast_eq]
  all_goals rfl

/-- The launch finds the stand-in column of the third harmonic. -/
theorem V_standin3 : V m c main_v56 = standin 3#32 (bins F (binsArg m c)) := by
  unfold V
  after_reads_simp
  all_goals try simp -implicitDefEqProofs only [StableHlo.TRef.toBuf, StableHlo.TRef.ofBuf, cast_cast, cast_eq]
  all_goals rfl

/-- The launch finds the multiplicities. -/
theorem V_multiplicity : V m c main_v18 = keysPerRun (binsArg m c) := by
  unfold V
  after_reads_simp
  all_goals try simp -implicitDefEqProofs only [StableHlo.TRef.toBuf, StableHlo.TRef.ofBuf, cast_cast, cast_eq]
  all_goals rfl

/-- The launch finds the key matrix. -/
theorem V_keys : V m c main_v16 = truncf .bf16 (keys (binsArg m c)) bitsLt_bf16_f32 := by
  unfold V
  after_reads_simp
  all_goals try simp -implicitDefEqProofs only [StableHlo.TRef.toBuf, StableHlo.TRef.ofBuf, cast_cast, cast_eq]
  all_goals rfl

end Cert.Proof.HostArrays

end
-- ==== Proof.Runs.lean ====
/- The key bins as natural numbers, and the runs of equal neighbours they fall into: what the precondition says of
   them, and what the host code's running count is worth at each key. -/
module

public import proofs.«01_k».proof.Defs
public import proofs.«01_k».proof.Proof.HostArrays
public import Idealize.ShloMosaic.Lib.Pointwise
public import Idealize.ShloMosaic.Lib.Affine
public import Idealize.ShloMosaic.Lib.Routing.Ops

@[expose] public section

set_option maxRecDepth 16384

noncomputable section

namespace Cert.Proof.Runs

open Idealize.ShloMosaic

/-- An array of 88 words. -/
abbrev Words : Type := IVec (⟨1, ![88]⟩ : Shape) 32

variable (kb : Words)

/-- One where key `i + 1` has another bin than key `i`, zero elsewhere. -/
def change (i : ℕ) : ℕ :=
  if h : i + 1 < 88 then if kb (ix1 ⟨i + 1, h⟩) = kb (ix1 ⟨i, by omega⟩) then 0 else 1 else 0

/-- How many changes come before key `k`. -/
def changesBefore (k : ℕ) : ℕ := ((List.range k).map (change kb)).sum

theorem changesBefore_succ (k : ℕ) : changesBefore kb (k + 1) = changesBefore kb k + change kb k := by
  simp [changesBefore, List.sum_range_succ]

theorem changesBefore_mono {k l : ℕ} (h : k ≤ l) : changesBefore kb k ≤ changesBefore kb l := by
  induction l, h using Nat.le_induction with
  | base => exact le_rfl
  | succ n _ ih => rw [changesBefore_succ]; omega

/-- Keys with no change between them have the same bin. -/
theorem same_bin {k l : ℕ} (h : k ≤ l) (hl : l < 88) (he : changesBefore kb k = changesBefore kb l) :
    kb (ix1 ⟨l, hl⟩) = kb (ix1 ⟨k, by omega⟩) := by
  induction l, h using Nat.le_induction with
  | base => rfl
  | succ n hn ih =>
    have h1 := changesBefore_mono kb hn
    have h2 := changesBefore_succ kb n
    have hc : change kb n = 0 := by omega
    refine Eq.trans ?_ (ih (by omega) (by omega))
    unfold change at hc
    rw [dif_pos hl] at hc
    by_contra hne
    rw [if_neg hne] at hc
    exact absurd hc (by decide)

/-- What the precondition says: every word is a number below 128, and there are fewer than 64 changes. -/
structure Ok : Prop where
  small : ∀ k : Fin 88, ∃ b : Fin 128, kb (ix1 k) = BitVec.ofNat 32 b
  few : changesBefore kb 87 < 64

/-- The bit that says whether two words differ, widened. -/
theorem differ_word (x y : BitVec 32) :
    BitVec.setWidth 32 (IntOp.cmpi .ne x y) = BitVec.ofNat 32 (if x = y then 0 else 1) := by
  by_cases h : x = y
  · subst h; simp [IntOp.cmpi]
  · rw [if_neg h]
    have : (x != y) = true := by simpa using h
    simp [IntOp.cmpi, this]

section Pre

variable [Cert.Pre_bins_in_range_and_runs.Facts]
open Cert.Pre_bins_in_range_and_runs Cert.Pre_bins_in_range_and_runs.Facts

/-- The sum of the changes, as the precondition computes it. -/
theorem changes_word : Host.reduce IntOp.addi (extui 32 (cmpi .ne (extractStridedSlice S87 ![1] kb slices_S88_S87_1)
      (extractStridedSlice S87 ![0] kb slices_S88_S87_0)) natLt_1_32) (constantI S_ 32 0#32) reducesTo_S87_S_d0 h_S_ ix0
    = BitVec.ofNat 32 (changesBefore kb 87) := by
  refine Routing.reduce_sum (N := 87) _ (change kb) (fun i => ?_) _ _
  rw [← ix1_eq_valueIdx]
  have hi : (i : ℕ) + 1 < 88 := by omega
  unfold change
  rw [dif_pos hi, ← differ_word]
  pointwise
  congr 3 <;> (congr 1; ext; simp [Nat.add_comm])

/-- The precondition, read. -/
theorem ok_of_pre {x : FVec Ideal S32x128x4096 .f32} (h : fn (F := Ideal) x kb = fun _ => 1#1) : Ok kb := by
  have key : ∀ k : Fin 88, IntOp.andi (IntOp.andi (IntOp.cmpi .sge (kb (ix1 k)) 0#32) (IntOp.cmpi .slt (kb (ix1 k)) 128#32))
      (IntOp.cmpi .slt (BitVec.ofNat 32 (changesBefore kb 87)) 64#32) = 1#1 := by
    intro k
    rw [← changes_word kb]
    refine Eq.trans ?_ (congrFun h (ix1 k))
    unfold fn
    pointwise
  have hle : changesBefore kb 87 ≤ 87 := by
    have : ∀ n, changesBefore kb n ≤ n := by
      intro n
      induction n with
      | zero => simp [changesBefore]
      | succ n ih =>
        rw [changesBefore_succ]
        have : change kb n ≤ 1 := by unfold change; split_ifs <;> omega
        omega
    exact this 87
  constructor
  · intro k
    have h1 := key k
    rw [IntOp.andi_eq_one, IntOp.andi_eq_one, IntOp.cmpi_sge, IntOp.cmpi_slt] at h1
    obtain ⟨⟨h0, h1⟩, -⟩ := h1
    have e0 : (0#32).toInt = 0 := rfl
    have e1 : (128#32).toInt = 128 := rfl
    rw [e0] at h0
    rw [e1] at h1
    have h2 : (kb (ix1 k)).toNat < 128 := by
      rw [BitVec.toInt_eq_toNat_cond] at h0 h1
      split_ifs at h0 h1 <;> omega
    exact ⟨⟨_, h2⟩, by simp⟩
  · have h1 := key 0
    rw [IntOp.andi_eq_one, IntOp.cmpi_slt] at h1
    have h2 := h1.2
    rw [StableHlo.Predicate.toInt_ofNat_small _ (by omega)] at h2
    have e1 : (64#32).toInt = 64 := rfl
    omega

end Pre

/-- The bin of a key as a number. -/
def bin {kb : Words} (h : Ok kb) (k : Fin 88) : Fin 128 := (h.small k).choose

theorem bin_spec {kb : Words} (h : Ok kb) (k : Fin 88) : kb (ix1 k) = BitVec.ofNat 32 (bin h k) := (h.small k).choose_spec

/-- The run of a key. -/
def run {kb : Words} (h : Ok kb) (k : Fin 88) : Fin 64 :=
  ⟨changesBefore kb k, lt_of_le_of_lt (changesBefore_mono kb (by omega)) h.few⟩

/-- Keys of one run have one bin. -/
theorem bin_eq_of_run_eq {kb : Words} (h : Ok kb) {k l : Fin 88} (hr : run h k = run h l) : bin h k = bin h l := by
  have main : ∀ {k l : Fin 88}, k ≤ l → run h k = run h l → bin h k = bin h l := by
    intro k l hkl hr
    have e := same_bin kb (k := k) (l := l) hkl l.2 (congrArg Fin.val hr)
    have e' : kb (ix1 l) = kb (ix1 k) := e
    rw [bin_spec h, bin_spec h] at e'
    have e2 := congrArg BitVec.toNat e'
    simp only [BitVec.toNat_ofNat] at e2
    ext
    omega
  rcases le_total k l with hkl | hkl
  · exact main hkl hr
  · exact (main hkl hr.symm).symm

open Cert.KernelIdeal Cert.KernelIdeal.Gen Cert.Proof.HostArrays

/-- The start markers: one at the first key, the change before the key elsewhere. -/
theorem starts_word (i : Fin 88) :
    starts kb (ix1 i) = BitVec.ofNat 32 (if (i : ℕ) = 0 then 1 else change kb (i - 1)) := by
  pointwise [starts]
  by_cases h : (i : ℕ) = 0
  · rw [dif_pos (by omega), if_pos h]
  · rw [dif_neg (by omega), if_neg h, differ_word]
    unfold change
    rw [dif_pos (by omega)]
    have e : ∀ (a b : ℕ) (ha : a < 88) (hb : b < 88), a = b → kb (ix1 ⟨a, ha⟩) = kb (ix1 ⟨b, hb⟩) := by
      intro a b ha hb hab; subst hab; rfl
    rw [e (1 + ((i : ℕ) - 1)) ((i : ℕ) - 1 + 1) _ _ (by omega)]

/-- The host code's run number of a key is the number of changes before it. -/
theorem runs_word (h : Ok kb) (i : Fin 88) : runs kb (ix1 i) = BitVec.ofNat 32 (run h i) := by
  have hc : Host.reduceWindow IntOp.addi ![88] ![1] ![87] ![0] (starts kb)
      (broadcastInDim S_ ![] bcast_S_S_ (constantI S_ 32 0#32)) reduceWindows_S88_S88_w88s1p87_0 h_S_ (ix1 i)
      = BitVec.ofNat 32 ((List.range ((i : ℕ) + 1)).map fun n => if n = 0 then 1 else change kb (n - 1)).sum :=
    Routing.cumsum1 (N := 88) (Nm1 := 87) rfl _ _ (fun j => (congrArg _ (ix1_eq_valueIdx j)).symm.trans (starts_word kb j)) _
      (by pointwise) _ _ i
  have hs : ((List.range ((i : ℕ) + 1)).map fun n => if n = 0 then 1 else change kb (n - 1)).sum
      = changesBefore kb i + 1 := by
    rw [List.range_succ_eq_map]
    simp [changesBefore, Function.comp_def, Nat.add_comm]
  pointwise [runs]
  rw [hc, hs]
  have := (run h i).2
  exact StableHlo.Predicate.sub_one_ofNat _ (by omega) (by change changesBefore kb i < 64 at this; omega)

end Cert.Proof.Runs

end
-- ==== Proof.Consts.lean ====
/- The float constants the two programs spell, as the extended reals they denote. -/
module

public import Idealize.ShloMosaic.PureOps.Ideal
public import Idealize.ShloMosaic.PureOps.Ideal.Laws
public import Idealize.ShloMosaic.Lib.IdealHost

@[expose] public section

noncomputable section

namespace Cert.Proof.Consts

open Idealize.ShloMosaic

/-- Minus infinity. -/
theorem neg_inf : Ideal.ofBits .f32 0xFF800000#32 = ⊥ := by
  simp [Ideal.ofBits, Ideal.ieee]

/-- 14. -/
theorem fourteen : Ideal.ofBits .f32 0x41600000#32 = ((14 : ℝ) : EReal) := by
  simp [Ideal.ofBits, Ideal.ieee, -EReal.coe_mul]; norm_num

/-- 15. -/
theorem fifteen : Ideal.ofBits .f32 0x41700000#32 = ((15 : ℝ) : EReal) := by
  simp [Ideal.ofBits, Ideal.ieee, -EReal.coe_mul]; norm_num

/-- 85. -/
theorem eightyFive : Ideal.ofBits .f32 0x42AA0000#32 = ((85 : ℝ) : EReal) := by
  simp [Ideal.ofBits, Ideal.ieee, -EReal.coe_mul]; norm_num

/-- 88. -/
theorem eightyEight : Ideal.ofBits .f32 0x42B00000#32 = ((88 : ℝ) : EReal) := by
  simp [Ideal.ofBits, Ideal.ieee, -EReal.coe_mul]; norm_num

/-- 100. -/
theorem hundred : Ideal.ofBits .f32 0x42C80000#32 = ((100 : ℝ) : EReal) := by
  simp [Ideal.ofBits, Ideal.ieee, -EReal.coe_mul]; norm_num

/-- The kernel's weight of the 15th largest energy, 6553 of 131072 parts. -/
theorem lowWeight : Ideal.ofBits .f32 0x3D4CC800#32 = ((6553 / 131072 : ℝ) : EReal) := by
  simp [Ideal.ofBits, Ideal.ieee, -EReal.coe_mul]; norm_num

/-- The kernel's weight of the 14th largest energy, 124519 of 131072 parts. -/
theorem highWeight : Ideal.ofBits .f32 0x3F733380#32 = ((124519 / 131072 : ℝ) : EReal) := by
  simp [Ideal.ofBits, Ideal.ieee, -EReal.coe_mul]; norm_num

end Cert.Proof.Consts

end
-- ==== Proof.HostValue.lean ====
/- What the host code's arrays are worth, entry by entry, at exact arithmetic: the key matrix marks the run of each
   key, the multiplicity of a run is the number of its keys, and the bin computed for a run is the bin of its keys. -/
module

public import proofs.«01_k».proof.Proof.Runs
public import proofs.«01_k».proof.Proof.Consts

@[expose] public section

set_option maxRecDepth 16384

noncomputable section

namespace Cert.Proof.HostValue

open Idealize.ShloMosaic Cert.KernelIdeal Cert.KernelIdeal.Gen Cert.Proof.HostArrays Cert.Proof.Runs

/-- The bit of an equality, as a number. -/
theorem eq_number {φ : FTy} (x y : BitVec 32) :
    (FloatOps.uitofp φ (IntOp.cmpi .eq x y) : Ideal φ) = if x = y then 1 else 0 := by
  change (((IntOp.cmpi .eq x y).toNat : ℝ) : EReal) = _
  by_cases h : x = y
  · subst h; simp [IntOp.cmpi]
  · have : (x == y) = false := by simpa using h
    simp [IntOp.cmpi, this, h]

theorem ofNat_eq_iff {a b : ℕ} (ha : a < 2 ^ 32) (hb : b < 2 ^ 32) : BitVec.ofNat 32 a = BitVec.ofNat 32 b ↔ a = b := by
  constructor
  · intro h
    have := congrArg BitVec.toNat h
    rwa [BitVec.toNat_ofNat, BitVec.toNat_ofNat, Nat.mod_eq_of_lt ha, Nat.mod_eq_of_lt hb] at this
  · rintro rfl; rfl

variable {kb : Words} (h : Ok kb)
include h

/-- An entry of the key matrix. -/
theorem keys_apply (k : Fin 88) (d : Fin 64) : keys (F := Ideal) kb (ix2 k d) = if run h k = d then 1 else 0 := by
  pointwise [keys]
  rw [eq_number, runs_word kb h]
  refine if_congr ?_ rfl rfl
  rw [ofNat_eq_iff (by omega) (by omega), Fin.ext_iff]

/-- The multiplicity of a run. -/
theorem keysPerRun_apply (d : Fin 64) :
    keysPerRun (F := Ideal) kb (ix2 0 d) = (((Finset.univ.filter fun k => run h k = d).card : ℝ) : EReal) := by
  pointwise [keysPerRun]
  simp only [keys_apply h]
  rw [Finset.sum_boole]
  rfl

omit h in
/-- A whole number survives the conversion to a word. -/
theorem fptosi_nat (n : ℕ) (hn : n ≤ 128) : Ideal.fptosi 32 ((n : ℝ) : EReal) = BitVec.ofNat 32 n := by
  unfold Ideal.fptosi
  rw [Ideal.toIntClamped_coe]
  have h0 : (0 : ℝ) ≤ n := Nat.cast_nonneg n
  rw [if_pos h0, Int.floor_natCast]
  have h1 : max (-((2 ^ (32 - 1) : ℕ) : ℤ)) (min (((2 ^ (32 - 1) : ℕ) : ℤ) - 1) (n : ℤ)) = n := by
    norm_num
    omega
  rw [h1]
  simp

/-- The entries the host code takes the maximum of for run `d`: one more than the bin at the run's keys, zero at the
    others. -/
theorem entry_fun (d : Fin 64) : (fun x : Fin 88 => keys (F := Ideal) kb (ix2 x d)
      * (FloatOps.sitofp .f32 (IntOp.addi (kb (ix1 x)) 1#32) : Ideal .f32))
    = fun x => if run h x = d then ((((bin h x : ℕ) + 1 : ℕ) : ℝ) : EReal) else (0 : EReal) := by
  funext x
  have e : (FloatOps.sitofp .f32 (IntOp.addi (kb (ix1 x)) 1#32) : Ideal .f32) = ((((bin h x : ℕ) + 1 : ℕ) : ℝ) : EReal) := by
    rw [bin_spec h]
    change (((BitVec.ofNat 32 (bin h x) + BitVec.ofNat 32 1).toInt : ℝ) : EReal) = _
    rw [← BitVec.ofNat_add, StableHlo.Predicate.toInt_ofNat_small _ (by omega)]
    rfl
  rw [keys_apply h, e]
  split_ifs with hx
  · exact one_mul _
  · exact zero_mul _

/-- The bin computed for the run of a key is the key's bin. -/
theorem bins_used (k : Fin 88) : bins Ideal kb (ix1 (run h k)) = BitVec.ofNat 32 (bin h k) := by
  pointwise [bins]
  rw [entry_fun h, Consts.neg_inf]
  have e : Finset.fold max (⊥ : EReal) (fun x => if run h x = run h k then ((((bin h x : ℕ) + 1 : ℕ) : ℝ) : EReal) else (0 : EReal))
      Finset.univ = ((((bin h k : ℕ) + 1 : ℕ) : ℝ) : EReal) := by
    apply le_antisymm
    · rw [Finset.fold_max_le]
      refine ⟨bot_le, fun x _ => ?_⟩
      split_ifs with hx
      · rw [bin_eq_of_run_eq h hx]
      · exact EReal.coe_nonneg.2 (Nat.cast_nonneg _)
    · rw [Finset.le_fold_max]
      exact .inr ⟨k, Finset.mem_univ _, by rw [if_pos rfl]⟩
  rw [e]
  change IntOp.subi (Ideal.fptosi 32 _) 1#32 = _
  rw [fptosi_nat _ (by omega)]
  exact StableHlo.Predicate.sub_one_ofNat _ (by omega) (by omega)

/-- The bin computed for a number no run has is minus one. -/
theorem bins_unused (d : Fin 64) (hd : ∀ k, run h k ≠ d) : bins Ideal kb (ix1 d) = BitVec.ofNat 32 4294967295 := by
  pointwise [bins]
  rw [entry_fun h, Consts.neg_inf]
  have e : Finset.fold max (⊥ : EReal) (fun x => if run h x = d then ((((bin h x : ℕ) + 1 : ℕ) : ℝ) : EReal) else (0 : EReal))
      Finset.univ = (((0 : ℕ) : ℝ) : EReal) := by
    apply le_antisymm
    · rw [Finset.fold_max_le]
      refine ⟨bot_le, fun x _ => ?_⟩
      rw [if_neg (hd x)]
      simp
    · rw [Finset.le_fold_max]
      exact .inr ⟨0, Finset.mem_univ _, by rw [if_neg (hd 0)]; simp⟩
  rw [e]
  change IntOp.subi (Ideal.fptosi 32 _) 1#32 = _
  rw [fptosi_nat _ (by omega)]
  rfl

omit h in
/-- An entry of a selection matrix whose row selects the number `n`. -/
theorem picks_apply (u : IVec S64 32) (d : Fin 64) (r : Fin 128) (n : ℕ) (hn : n < 2 ^ 32) (hu : u (ix1 d) = BitVec.ofNat 32 n) :
    picks (F := Ideal) u (ix2 d r) = if n = r then 1 else 0 := by
  pointwise [picks]
  rw [eq_number, hu]
  exact if_congr (ofNat_eq_iff hn (by omega)) rfl rfl

omit h in
/-- Twice or three times a number. -/
theorem times_apply (u : IVec S64 32) (d : Fin 64) (c n : ℕ) (hu : u (ix1 d) = BitVec.ofNat 32 n) :
    times (BitVec.ofNat 32 c) u (ix1 d) = BitVec.ofNat 32 (c * n) := by
  pointwise [times]
  rw [hu]
  simp [IntOp.muli, BitVec.ofNat_mul]

omit h in
/-- The stand-in of a run whose bin is `n`. -/
theorem standin_apply (u : IVec S64 32) (d : Fin 64) (c n : ℕ) (hc : c ≤ 3) (hn : n < 128) (hu : u (ix1 d) = BitVec.ofNat 32 n) :
    standin (F := Ideal) (BitVec.ofNat 32 c) u (ix2 d 0) = if c * n < 128 then 0 else 1 := by
  have hcn : c * n < 512 := by nlinarith
  pointwise [standin]
  rw [times_apply u d c n hu, hu]
  unfold Scalar.select
  refine if_congr ?_ rfl rfl
  change _ = 1#1 ↔ _
  rw [IntOp.andi_eq_one, IntOp.cmpi_slt, IntOp.cmpi_sge]
  have e1 : (128#32).toInt = 128 := rfl
  have e0 : (0#32).toInt = 0 := rfl
  rw [e1, e0, StableHlo.Predicate.toInt_ofNat_small _ (by omega), StableHlo.Predicate.toInt_ofNat_small _ (by omega)]
  omega

end Cert.Proof.HostValue

end
-- ==== Proof.Select.lean ====
/- The mathematics behind both programs, over plain families of extended reals.
   A key is kept exactly when fewer than 14 of the 88 energies are strictly larger than its own. The
   threshold is a weighted mean of the 15th and the 14th largest energy; which weights makes no difference,
   as long as both are positive and they add up to one, because no energy lies strictly between the two. -/
module

public import Mathlib.Data.EReal.Operations
public import Mathlib.Data.EReal.Inv
public import Mathlib.Data.Finset.Max
public import Mathlib.Order.Interval.Finset.Fin
public import Mathlib.Algebra.BigOperators.Group.Finset.Basic
public import Mathlib.Tactic.Linarith
public import Mathlib.Tactic.Positivity

@[expose] public section

namespace Cert.Proof.Select

/-- How many of the energies are strictly above `v`. -/
noncomputable def above {n : ℕ} (E : Fin n → EReal) (v : EReal) : ℕ := by
  classical exact (Finset.univ.filter fun k => v < E k).card

/-- How many of the energies are at least `v`. -/
noncomputable def atLeast {n : ℕ} (E : Fin n → EReal) (v : EReal) : ℕ := by
  classical exact (Finset.univ.filter fun k => v ≤ E k).card

/-- `v` is the `r`-th largest of the energies. -/
def IsNth {n : ℕ} (E : Fin n → EReal) (r : ℕ) (v : EReal) : Prop := above E v < r ∧ r ≤ atLeast E v

/-- What lies above the lower of two values includes what reaches the higher. -/
theorem atLeast_le_above {n : ℕ} (E : Fin n → EReal) {u v : EReal} (h : u < v) : atLeast E v ≤ above E u := by
  classical
  unfold atLeast above
  exact Finset.card_le_card fun k hk => by
    simp only [Finset.mem_filter, Finset.mem_univ, true_and] at hk ⊢
    exact lt_of_lt_of_le h hk

/-- Fewer values are above a higher one. -/
theorem above_anti {n : ℕ} (E : Fin n → EReal) {u v : EReal} (h : u ≤ v) : above E v ≤ above E u := by
  classical
  unfold above
  exact Finset.card_le_card fun k hk => by
    simp only [Finset.mem_filter, Finset.mem_univ, true_and] at hk ⊢
    exact lt_of_le_of_lt h hk

/-- An energy strictly between two values counts once more above the lower one. -/
theorem above_between {n : ℕ} (E : Fin n → EReal) {u v : EReal} (k : Fin n) (hu : u < E k) (hv : E k < v) :
    atLeast E v + 1 ≤ above E u := by
  classical
  unfold atLeast above
  have hk : k ∉ Finset.univ.filter fun j => v ≤ E j := by simpa using hv
  rw [← Finset.card_insert_of_notMem hk]
  refine Finset.card_le_card fun j hj => ?_
  simp only [Finset.mem_insert, Finset.mem_filter, Finset.mem_univ, true_and] at hj ⊢
  rcases hj with rfl | hj
  · exact hu
  · exact hu.trans (hv.trans_le hj)

/-- An energy reaches the `r`-th largest exactly when fewer than `r` are above it. -/
theorem nth_le_iff {n : ℕ} (E : Fin n → EReal) {r : ℕ} {v : EReal} (h : IsNth E r v) (k : Fin n) :
    v ≤ E k ↔ above E (E k) < r := by
  constructor
  · intro hv; exact (above_anti E hv).trans_lt h.1
  · intro hk
    by_contra hlt
    have := atLeast_le_above E (not_le.mp hlt)
    have := h.2
    omega

/-- A weighted mean of a nonnegative value with itself is the value. -/
theorem mean_self {q p : ℝ} (hq : 0 < q) (hp : 0 < p) (hqp : q + p = 1) (v : EReal) :
    v * (q : EReal) + v * (p : EReal) = v := by
  rw [← EReal.left_distrib_of_nonneg (by exact_mod_cast hq.le) (by exact_mod_cast hp.le), ← EReal.coe_add, hqp,
    EReal.coe_one, mul_one]

/-- A weighted mean of two nonnegative values is strictly above the lower one. -/
theorem lt_mean {q p : ℝ} (hq : 0 < q) (hp : 0 < p) (hqp : q + p = 1) {lo hi : EReal} (h0 : 0 ≤ lo) (h : lo < hi) :
    lo < lo * (q : EReal) + hi * (p : EReal) := by
  induction lo with
  | bot => exact absurd h0 (by simp)
  | top => exact absurd h not_top_lt
  | coe a =>
    induction hi with
    | bot => exact absurd h not_lt_bot
    | top =>
      rw [EReal.top_mul_of_pos (by exact_mod_cast hp), ← EReal.coe_mul, EReal.coe_add_top]
      exact EReal.coe_lt_top a
    | coe b =>
      have hab : a < b := by exact_mod_cast h
      rw [← EReal.coe_mul, ← EReal.coe_mul, ← EReal.coe_add, EReal.coe_lt_coe_iff]
      have : a = a * q + a * p := by rw [← mul_add, hqp, mul_one]
      nlinarith [mul_lt_mul_of_pos_right hab hp]

/-- A weighted mean of two nonnegative values is at most the higher one. -/
theorem mean_le {q p : ℝ} (hq : 0 < q) (hp : 0 < p) (hqp : q + p = 1) {lo hi : EReal} (h : lo ≤ hi) :
    lo * (q : EReal) + hi * (p : EReal) ≤ hi := by
  calc lo * (q : EReal) + hi * (p : EReal) ≤ hi * (q : EReal) + hi * (p : EReal) := by
        gcongr
    _ = hi := mean_self hq hp hqp hi

/-- THE THRESHOLD. With the 14th and the 15th largest of nonnegative energies and any two positive weights that add
    up to one, an energy reaches the weighted mean exactly when fewer than 14 are above it. -/
theorem mean_le_iff {n : ℕ} (E : Fin n → EReal) (hE : ∀ k, 0 ≤ E k) (hn : 15 ≤ n) {q p : ℝ} (hq : 0 < q) (hp : 0 < p)
    (hqp : q + p = 1) {lo hi : EReal} (hlo : IsNth E 15 lo) (hhi : IsNth E 14 hi) (k : Fin n) :
    lo * (q : EReal) + hi * (p : EReal) ≤ E k ↔ above E (E k) < 14 := by
  rw [← nth_le_iff E hhi k]
  have hle : lo ≤ hi := by
    by_contra hlt
    have := atLeast_le_above E (not_le.mp hlt)
    have := hlo.2
    have := hhi.1
    omega
  have h0 : 0 ≤ lo := by
    by_contra hlt
    have h1 : above E lo = n := by
      classical
      unfold above
      rw [Finset.filter_true_of_mem fun j _ => lt_of_lt_of_le (not_le.mp hlt) (hE j), Finset.card_univ, Fintype.card_fin]
    have := hlo.1
    omega
  constructor
  · intro hm
    by_contra hlt
    have hlt := not_le.mp hlt
    rcases hle.eq_or_lt with he | he
    · rw [he, mean_self hq hp hqp] at hm
      exact absurd hm (not_le.mpr hlt)
    · have hkl : E k ≤ lo := by
        by_contra hb
        have := above_between E k (not_le.mp hb) hlt
        have := hhi.2
        have := hlo.1
        omega
      exact absurd (hm.trans hkl) (not_le.mpr (lt_mean hq hp hqp h0 he))
  · intro hm
    exact (mean_le hq hp hqp hle).trans hm

/-- In a list of the energies in ascending order, the entry with exactly `r - 1` entries after it is the `r`-th
    largest. -/
theorem isNth_of_sorted {n : ℕ} (E : Fin n → EReal) (σ : Fin n → Fin n) (hσ : Function.Bijective σ)
    (hmono : ∀ i j : Fin n, i < j → E (σ i) ≤ E (σ j)) (i : Fin n) {r : ℕ} (hr : (i : ℕ) + r = n) :
    IsNth E r (E (σ i)) := by
  classical
  have hmono' : ∀ a b : Fin n, a ≤ b → E (σ a) ≤ E (σ b) := fun a b h => by
    rcases h.eq_or_lt with h | h
    · rw [h]
    · exact hmono a b h
  constructor
  · have : above E (E (σ i)) ≤ (Finset.Ioi i).card := by
      unfold above
      refine Finset.card_le_card_of_surjOn σ fun k hk => ?_
      obtain ⟨j, rfl⟩ := hσ.2 k
      simp only [Finset.coe_filter, Finset.mem_univ, true_and, Set.mem_setOf_eq] at hk
      refine ⟨j, ?_, rfl⟩
      rw [Finset.mem_coe, Finset.mem_Ioi]
      by_contra hj
      exact absurd (hmono' j i (not_lt.mp hj)) (not_le.mpr hk)
    rw [Fin.card_Ioi] at this
    have := i.isLt
    omega
  · have : (Finset.Ici i).card ≤ atLeast E (E (σ i)) := by
      unfold atLeast
      refine Finset.card_le_card_of_injOn σ (fun j hj => ?_) hσ.1.injOn
      rw [Finset.mem_coe, Finset.mem_Ici] at hj
      simp only [Finset.coe_filter, Finset.mem_univ, true_and, Set.mem_setOf_eq]
      exact hmono' i j hj
    rw [Fin.card_Ici] at this
    omega

/-! ## The rounds over distinct frequencies

Each of the `n` keys has a frequency `s k`; the frequencies have energies `e`, and the energies of the keys are
`fun k => e (s k)`. A round marks frequencies, and what matters of a marking is how many keys it holds. -/

section Rounds

variable {n d : ℕ} (s : Fin n → Fin d) (e : Fin d → EReal)

/-- How many keys have a marked frequency. -/
noncomputable def held (C : Fin d → Prop) : ℕ := by
  classical exact (Finset.univ.filter fun k => C (s k)).card

/-- The largest energy not marked (minus infinity if all are). -/
noncomputable def level (C : Fin d → Prop) : EReal := by
  classical exact Finset.univ.sup fun i => if C i then ⊥ else e i

/-- The frequencies that reach the next level. -/
def reached (C : Fin d → Prop) : Fin d → Prop := fun i => level e C ≤ e i

/-- Keys whose energy reaches the level are those the next marking holds. -/
theorem held_reached (C : Fin d → Prop) : held s (reached e C) = atLeast (fun k => e (s k)) (level e C) := by
  classical
  unfold held atLeast reached
  exact congrArg Finset.card (Finset.filter_congr_decidable ..)

/-- Above the level there are only marked frequencies. -/
theorem above_level_le (C : Fin d → Prop) : above (fun k => e (s k)) (level e C) ≤ held s C := by
  classical
  unfold above held
  refine Finset.card_le_card fun k hk => ?_
  simp only [Finset.mem_filter, Finset.mem_univ, true_and] at hk ⊢
  by_contra hC
  have : (if C (s k) then (⊥ : EReal) else e (s k)) ≤ level e C := by
    unfold level; exact Finset.le_sup (f := fun i => if C i then (⊥ : EReal) else e i) (Finset.mem_univ (s k))
  rw [if_neg hC] at this
  exact absurd this (not_le.mpr hk)

/-- A count that passes `r` between two markings does so at the `r`-th largest energy. -/
theorem isNth_level (C : Fin d → Prop) {r : ℕ} (h1 : held s C < r) (h2 : r ≤ held s (reached e C)) :
    IsNth (fun k => e (s k)) r (level e C) :=
  ⟨(above_level_le s e C).trans_lt h1, held_reached s e C ▸ h2⟩

/-- A marking is closed upwards: what is not marked is not above what is. -/
def Upper (C : Fin d → Prop) : Prop := ∀ i j, C i → ¬ C j → e j ≤ e i

theorem upper_reached (C : Fin d → Prop) : Upper e (reached e C) := fun _ _ hi hj =>
  (not_le.mp hj).le.trans hi

/-- What an upward closed marking holds is held after the round. -/
theorem reached_of_marked {C : Fin d → Prop} (hC : Upper e C) (i : Fin d) (hi : C i) : reached e C i := by
  classical
  unfold reached level
  refine Finset.sup_le fun j _ => ?_
  split_ifs with hj
  · exact bot_le
  · exact hC i j hi hj

/-- A ROUND ADVANCES. Where a frequency without a key has energy zero and no energy is negative, a round over an
    upward closed marking that does not hold all keys holds at least one key more. -/
theorem held_lt {C : Fin d → Prop} (hC : Upper e C) (he : ∀ i, 0 ≤ e i) (hpad : ∀ i, (∃ k, s k = i) ∨ e i = 0)
    (hlt : held s C < n) : held s C < held s (reached e C) := by
  classical
  have hex : ∃ k, ¬ C (s k) := by
    by_contra hno
    push Not at hno
    have : held s C = n := by
      unfold held
      rw [Finset.filter_true_of_mem fun k _ => hno k, Finset.card_univ, Fintype.card_fin]
    omega
  obtain ⟨k₀, hk₀⟩ := hex
  have hnew : ∃ k, ¬ C (s k) ∧ reached e C (s k) := by
    obtain ⟨i, _, hi⟩ := Finset.exists_mem_eq_sup Finset.univ ⟨s k₀, Finset.mem_univ _⟩
      (fun i => if C i then (⊥ : EReal) else e i)
    have hlev : level e C = if C i then (⊥ : EReal) else e i := hi
    by_cases hCi : C i
    · exact ⟨k₀, hk₀, by unfold reached; rw [hlev, if_pos hCi]; exact bot_le⟩
    · rw [if_neg hCi] at hlev
      rcases hpad i with ⟨k, rfl⟩ | h0
      · exact ⟨k, hCi, by unfold reached; rw [hlev]⟩
      · exact ⟨k₀, hk₀, by unfold reached; rw [hlev, h0]; exact he _⟩
  obtain ⟨k, hk, hk'⟩ := hnew
  unfold held
  refine Finset.card_lt_card ((Finset.ssubset_iff_of_subset fun j hj => ?_).mpr ⟨k, ?_, ?_⟩)
  · simp only [Finset.mem_filter, Finset.mem_univ, true_and] at hj ⊢
    exact reached_of_marked e hC _ hj
  · simpa using hk'
  · simpa using hk

/-- WHAT THE ROUNDS KEEP: the marking is upward closed, `a` and `b` are the 14th and the 15th largest energies once
    that many keys are held, and at least `r` keys are. -/
structure Kept (C : Fin d → Prop) (a b : EReal) (r : ℕ) : Prop where
  upper : Upper e C
  fourteenth : 14 ≤ held s C → IsNth (fun k => e (s k)) 14 a
  fifteenth : 15 ≤ held s C → IsNth (fun k => e (s k)) 15 b
  many : r ≤ held s C

/-- The first round. -/
theorem kept_first (he : ∀ i, 0 ≤ e i) (hpad : ∀ i, (∃ k, s k = i) ∨ e i = 0) (hn : 0 < n) (a b : EReal)
    (ha : 14 ≤ held s (reached e fun _ => False) → a = level e fun _ => False)
    (hb : 15 ≤ held s (reached e fun _ => False) → b = level e fun _ => False) :
    Kept s e (reached e fun _ => False) a b 1 := by
  have h0 : held s (fun _ => False) = 0 := by
    classical
    unfold held; simp
  refine ⟨upper_reached e _, fun h => ?_, fun h => ?_, ?_⟩
  · rw [ha h]; exact isNth_level s e _ (by omega) h
  · rw [hb h]; exact isNth_level s e _ (by omega) h
  · have := held_lt s e (C := fun _ => False) (fun _ _ h => h.elim) he hpad (by omega)
    omega

/-- A later round. -/
theorem kept_next (he : ∀ i, 0 ≤ e i) (hpad : ∀ i, (∃ k, s k = i) ∨ e i = 0) {C : Fin d → Prop} {a b a' b' : EReal}
    {r : ℕ} (h : Kept s e C a b r) (hr : r < n)
    (ha : a' = if held s C < 14 ∧ 14 ≤ held s (reached e C) then level e C else a)
    (hb : b' = if held s C < 15 ∧ 15 ≤ held s (reached e C) then level e C else b) :
    Kept s e (reached e C) a' b' (r + 1) := by
  classical
  have hmono : held s C ≤ held s (reached e C) := by
    unfold held
    refine Finset.card_le_card fun j hj => ?_
    simp only [Finset.mem_filter, Finset.mem_univ, true_and] at hj ⊢
    exact reached_of_marked e h.upper _ hj
  refine ⟨upper_reached e _, fun h14 => ?_, fun h15 => ?_, ?_⟩
  · rw [ha]
    split_ifs with hc
    · exact isNth_level s e C hc.1 hc.2
    · exact h.fourteenth (by omega)
  · rw [hb]
    split_ifs with hc
    · exact isNth_level s e C hc.1 hc.2
    · exact h.fifteenth (by omega)
  · have := h.many
    rcases Nat.lt_or_ge (held s C) n with hlt | hge
    · have := held_lt s e h.upper he hpad hlt
      omega
    · omega

end Rounds

end Cert.Proof.Select
-- ==== Proof.Energies.lean ====
/- The harmonic product of a frequency bin, and the energies of the runs as the kernel's body computes them: the
   selection matrices pick the bin and its overtones out of the spectrum, and an overtone off the axis counts as one. -/
module

public import proofs.«01_k».proof.Proof.HostValue
public import proofs.«01_k».proof.Proof.Select

@[expose] public section

set_option maxRecDepth 16384

noncomputable section

namespace Cert.Proof.Energies

open Idealize.ShloMosaic

/-- The value at a bin, one where the bin is off the axis. -/
def overtone (x : Fin 128 → EReal) (n : ℕ) : EReal := if h : n < 128 then x ⟨n, h⟩ else 1

/-- The harmonic product of bin `b`: the value there, at twice the bin and at three times the bin. -/
def product (x : Fin 128 → EReal) (b : Fin 128) : EReal := x b * overtone x (2 * b) * overtone x (3 * b)

theorem overtone_nonneg {x : Fin 128 → EReal} (hx : ∀ b, 0 ≤ x b) (n : ℕ) : 0 ≤ overtone x n := by
  unfold overtone
  split_ifs
  · exact hx _
  · exact zero_le_one

theorem product_nonneg {x : Fin 128 → EReal} (hx : ∀ b, 0 ≤ x b) (b : Fin 128) : 0 ≤ product x b :=
  mul_nonneg (mul_nonneg (hx b) (overtone_nonneg hx _)) (overtone_nonneg hx _)

/-- The exponential is never negative. -/
theorem exp_nonneg (x : EReal) : 0 ≤ Ideal.exp x := by
  induction x using EReal.rec with
  | bot => simp
  | top => simp
  | coe r => rw [Ideal.exp_coe]; exact EReal.coe_nonneg.2 (Real.exp_pos r).le

/-- A sum over a row that picks the number `n` is the value there, zero where `n` is off the axis. -/
theorem sum_pick (n : ℕ) (x : Fin 128 → EReal) :
    (∑ r : Fin 128, (if n = r then (1 : EReal) else 0) * x r) = if h : n < 128 then x ⟨n, h⟩ else 0 := by
  by_cases h : n < 128
  · rw [dif_pos h, Finset.sum_eq_single (⟨n, h⟩ : Fin 128)]
    · simp
    · intro r _ hr
      rw [if_neg fun e => hr (Fin.ext e.symm), zero_mul]
    · exact fun hm => absurd (Finset.mem_univ _) hm
  · rw [dif_neg h]
    refine Finset.sum_eq_zero fun r _ => ?_
    rw [if_neg (by omega), zero_mul]

/-- The value picked plus its stand-in is the overtone. -/
theorem pick_standin (n : ℕ) (x : Fin 128 → EReal) :
    (if h : n < 128 then x ⟨n, h⟩ else 0) + (if n < 128 then 0 else 1) = overtone x n := by
  unfold overtone
  by_cases h : n < 128
  · rw [dif_pos h, if_pos h, dif_pos h, add_zero]
  · rw [dif_neg h, if_neg h, dif_neg h, zero_add]

/-- THE ANSWER of both programs: key `k` is marked at a time where fewer than 14 of the keys' energies are above its
    own, an energy being the harmonic product of the exponentials at the key's bin. -/
def answer {kb : Runs.Words} (h : Runs.Ok kb) (x : FVec Ideal (⟨3, ![32, 128, 4096]⟩ : Shape) .f32) :
    FVec Ideal (⟨3, ![32, 88, 4096]⟩ : Shape) .f32 := fun i =>
  if Select.above (fun k => product (fun b => Ideal.exp (x (ix3 (i 0) b (i 2)))) (Runs.bin h k))
      (product (fun b => Ideal.exp (x (ix3 (i 0) b (i 2)))) (Runs.bin h (i 1))) < 14 then 1 else 0

open Cert.KernelIdeal Cert.KernelIdeal.Gen Cert.Proof.HostArrays Cert.Proof.HostValue Cert.Proof.Runs

variable (x1 x2 : Vec Ideal S64x1 .f32) (x3 : Vec Ideal S1x64 .f32) (x4 : Vec Ideal S88x64 .bf16)
  (x5 : Vec Ideal S1x128x4096 .f32) (u : IVec S64 32) (d : Fin 64) (t : Fin 4096)

/-- The three rows of the stacked selection that belong to a run. -/
theorem selection_rows (r : Fin 128) (i : Fin 3) (hi : 64 * (i : ℕ) + d < 192) :
    selection (F := Ideal) u (ix2 ⟨64 * (i : ℕ) + d, hi⟩ r)
      = picks (F := Ideal) (![u, times 2#32 u, times 3#32 u] i) (ix2 d r) := by
  have hd := d.isLt
  pointwise [selection]
  match i with
  | 0 => rw [dif_pos (by omega)]; congr 2; ext; simp
  | 1 => rw [dif_neg (by omega), dif_pos (by omega)]; congr 2; ext; simp
  | 2 => rw [dif_neg (by omega), dif_neg (by omega)]; congr 2; ext; simp; omega

/-- The body's energies, over the selection, with the rows read apart. -/
theorem energies_eq : k0_pay74 (selection (F := Ideal) u) x1 x2 x3 x4 x5 (ix2 d t)
    = (∑ r, picks (F := Ideal) u (ix2 d r) * Ideal.exp (x5 (ix3 0 r t)))
      * ((∑ r, picks (F := Ideal) (times 2#32 u) (ix2 d r) * Ideal.exp (x5 (ix3 0 r t))) + x1 (ix2 d 0))
      * ((∑ r, picks (F := Ideal) (times 3#32 u) (ix2 d r) * Ideal.exp (x5 (ix3 0 r t))) + x2 (ix2 d 0)) := by
  have h0 := fun r => selection_rows u d r 0 (by have := d.isLt; simp; omega)
  have h1 := fun r => selection_rows u d r 1 (by have := d.isLt; simp; omega)
  have h2 := fun r => selection_rows u d r 2 (by have := d.isLt; simp; omega)
  simp at h0 h1 h2
  unfold k0_pay74
  pointwise [k0_pay4]
  simp only [h0, h1, h2]

variable {kb : Words} (h : Ok kb)
include h

/-- The energy of the run of a key is the harmonic product of the key's bin. -/
theorem energies_used (k : Fin 88) :
    k0_pay74 (selection (F := Ideal) (bins Ideal kb)) (standin 2#32 (bins Ideal kb)) (standin 3#32 (bins Ideal kb)) x3 x4 x5
      (ix2 (run h k) t) = product (fun b => Ideal.exp (x5 (ix3 0 b t))) (bin h k) := by
  have hb := (bin h k).isLt
  have hu := bins_used h k
  have h2 := times_apply (bins Ideal kb) (run h k) 2 _ hu
  have h3 := times_apply (bins Ideal kb) (run h k) 3 _ hu
  have s2 := standin_apply (bins Ideal kb) (run h k) 2 _ (by omega) hb hu
  have s3 := standin_apply (bins Ideal kb) (run h k) 3 _ (by omega) hb hu
  rw [energies_eq, s2, s3]
  simp only [picks_apply _ _ _ _ (by omega) hu, picks_apply _ _ _ _ (by omega) h2, picks_apply _ _ _ _ (by omega) h3]
  rw [sum_pick _ fun b => Ideal.exp (x5 (ix3 0 b t)), sum_pick _ fun b => Ideal.exp (x5 (ix3 0 b t)),
    sum_pick _ fun b => Ideal.exp (x5 (ix3 0 b t))]
  rw [pick_standin _ fun b => Ideal.exp (x5 (ix3 0 b t)), pick_standin _ fun b => Ideal.exp (x5 (ix3 0 b t)), dif_pos hb]
  rfl

/-- The energy at a number no run has is zero. -/
theorem energies_unused (hd : ∀ k, run h k ≠ d) :
    k0_pay74 (selection (F := Ideal) (bins Ideal kb)) x1 x2 x3 x4 x5 (ix2 d t) = 0 := by
  have hu := bins_unused h d hd
  rw [energies_eq]
  simp only [picks_apply (bins Ideal kb) _ _ _ (by omega) hu]
  rw [sum_pick _ fun b => Ideal.exp (x5 (ix3 0 b t)), dif_neg (by omega)]
  exact (congrArg (· * _) (zero_mul _)).trans (zero_mul _)

end Cert.Proof.Energies

end
-- ==== Proof.Rounds.lean ====
/- The kernel's body read as fifteen rounds of one step. A round takes the largest energy not yet
   reached in each column, marks what has reached it, counts the marked frequencies with their
   multiplicities, and keeps the energy at which the count passes 14 and the one at which it passes 15.
   This module names the step over whole blocks and shows that the printed body is its iteration. -/
module

public import proofs.«01_k».proof.Proof.Gen.KernelIdeal.Frame

@[expose] public section

set_option maxRecDepth 16384

noncomputable section

namespace Cert.Proof.Rounds

open Idealize.ShloMosaic Cert.KernelIdeal Cert.KernelIdeal.Gen

variable {F : FTy → Type} [FloatOps F]

/-- What the rounds carry for a block of columns: which frequencies have been reached, how many of the 88
    energies those are, and the two energies kept so far. -/
structure State (F : FTy → Type) [FloatOps F] where
  seen : IVec S64x4096 1
  count : FVec F S1x4096 .f32
  fourteenth : FVec F S1x4096 .f32
  fifteenth : FVec F S1x4096 .f32

/-- The largest energy of each column. -/
def colMax (x : FVec F S64x4096 .f32) : FVec F S1x4096 .f32 :=
  shapeCast S1x4096 (multiReduction .maximumf [0] S4096 x 0xFF800000#32 reduces_S64x4096_S4096 (.inl rfl) rfl)
    shapeCasts_S4096_S1x4096

/-- The energies that have been reached, as minus infinity. -/
def hide (e : FVec F S64x4096 .f32) (seen : IVec S64x4096 1) : FVec F S64x4096 .f32 :=
  select seen (broadcast S64x4096 (Scalar.ofBits .f32 0xFF800000#32)) e

/-- The frequencies whose energy reaches the column's level. -/
def reach (e : FVec F S64x4096 .f32) (level : FVec F S1x4096 .f32) : IVec S64x4096 1 :=
  cmpf .oge e (broadcastTo S64x4096 level broadcasts_S1x4096_S64x4096)

/-- One where the mask is set, zero elsewhere. -/
def ones (seen : IVec S64x4096 1) : FVec F S64x4096 .f32 :=
  select seen (broadcast S64x4096 (Scalar.ofBits .f32 0x3F800000#32)) (broadcast S64x4096 (Scalar.ofBits .f32 0x00000000#32))

/-- The multiplicities of the marked frequencies, added up. -/
def countOf (w : FVec F S1x64 .f32) (seen : IVec S64x4096 1) : FVec F S1x4096 .f32 :=
  matmul dot_S1x64_S64x4096_S1x4096_1_0_0_1_n_n none w (ones seen) (constant S1x4096 .f32 0x00000000#32)

/-- The level, where the count passes `bits` in this round; what was kept before, elsewhere. -/
def keep (bits : BitVec 32) (before after level kept : FVec F S1x4096 .f32) : FVec F S1x4096 .f32 :=
  select (andi (cmpf .olt before (broadcast S1x4096 (Scalar.ofBits .f32 bits)))
    (cmpf .oge after (broadcast S1x4096 (Scalar.ofBits .f32 bits)))) level kept

/-- The level kept in the first round, where the count already reaches `bits`; zero elsewhere. -/
def keepFirst (bits : BitVec 32) (after level : FVec F S1x4096 .f32) : FVec F S1x4096 .f32 :=
  select (cmpf .oge after (broadcast S1x4096 (Scalar.ofBits .f32 bits))) level
    (broadcast S1x4096 (Scalar.ofBits .f32 0x00000000#32))

/-- The first round. -/
def first (e : FVec F S64x4096 .f32) (w : FVec F S1x64 .f32) : State F :=
  ⟨reach e (colMax e), countOf w (reach e (colMax e)),
    keepFirst 0x41600000#32 (countOf w (reach e (colMax e))) (colMax e),
    keepFirst 0x41700000#32 (countOf w (reach e (colMax e))) (colMax e)⟩

/-- A later round. -/
def next (e : FVec F S64x4096 .f32) (w : FVec F S1x64 .f32) (s : State F) : State F :=
  ⟨reach e (colMax (hide e s.seen)), countOf w (reach e (colMax (hide e s.seen))),
    keep 0x41600000#32 s.count (countOf w (reach e (colMax (hide e s.seen)))) (colMax (hide e s.seen)) s.fourteenth,
    keep 0x41700000#32 s.count (countOf w (reach e (colMax (hide e s.seen)))) (colMax (hide e s.seen)) s.fifteenth⟩

/-- The threshold of each column, from the two energies kept. -/
def threshold (s : State F) : FVec F S1x4096 .f32 :=
  addf (mulf s.fifteenth (broadcast S1x4096 (Scalar.ofBits .f32 0x3D4CC800#32)))
    (mulf s.fourteenth (broadcast S1x4096 (Scalar.ofBits .f32 0x3F733380#32)))

/-- The mask of the frequencies at or above the threshold, laid out over the 88 keys by the key matrix. -/
def spread (p : FVec F S88x64 .bf16) (e : FVec F S64x4096 .f32) (level : FVec F S1x4096 .f32) : FVec F S88x4096 .f32 :=
  matmul dot_S88x64_S64x4096_S88x4096_1_0_0_1_n_n none (shapeCast S88x64 p shapeCasts_S88x64_S88x64)
    (truncf .bf16 (ones (reach e level)) bitsLt_bf16_f32) (constant S88x4096 .f32 0x00000000#32)

/-- The state after the first round and `n` later ones. -/
def after (e : FVec F S64x4096 .f32) (w : FVec F S1x64 .f32) (n : ℕ) : State F :=
  (next e w)^[n] (first e w)

variable (x0 : Vec F S192x128 .f32) (x1 x2 : Vec F S64x1 .f32) (x3 : Vec F S1x64 .f32) (x4 : Vec F S88x64 .bf16)
  (x5 : Vec F S1x128x4096 .f32)

set_option maxHeartbeats 4000000 in
/-- The printed body is the first round, fourteen later ones, the threshold and the key matrix. -/
theorem body_eq : k0_pay1 (k0_pay74 x0 x1 x2 x3 x4 x5) (k0_pay92 x0 x1 x2 x3 x4 x5) (k0_pay93 x0 x1 x2 x3 x4 x5)
      (k0_pay94 x0 x1 x2 x3 x4 x5) (k0_pay95 x0 x1 x2 x3 x4 x5) (k0_pay96 x0 x1 x2 x3 x4 x5)
      (k0_pay97 x0 x1 x2 x3 x4 x5) (View.ld x4 r0_4)
    = spread (View.ld x4 r0_4) (k0_pay74 x0 x1 x2 x3 x4 x5)
        (threshold (after (k0_pay74 x0 x1 x2 x3 x4 x5) (k0_pay75 x0 x1 x2 x3 x4 x5) 14)) := rfl

end Cert.Proof.Rounds

end
-- ==== Proof.Columns.lean ====
/- One column of the kernel's rounds at exact arithmetic: what each piece of a round is worth, and by induction that
   after fifteen rounds the two energies kept are the 14th and the 15th largest of the keys' energies. -/
module

public import proofs.«01_k».proof.Proof.Rounds
public import proofs.«01_k».proof.Proof.Select
public import proofs.«01_k».proof.Proof.Consts
public import Idealize.ShloMosaic.Lib.Pointwise
public import Idealize.ShloMosaic.Lib.Affine
public import Idealize.ShloMosaic.Lib.StableHlo.Predicate

@[expose] public section

set_option maxRecDepth 16384

noncomputable section

namespace Cert.Proof.Columns

open Idealize.ShloMosaic Cert.KernelIdeal Cert.KernelIdeal.Gen Cert.Proof.Rounds Cert.Proof.Select

/-- A choice on a condition's bit. -/
theorem select_if {α : Type} (p : Prop) [Decidable p] (b : BitVec 1) (hb : b = 1#1 ↔ p) (x y : α) :
    Scalar.select b x y = if p then x else y := by
  unfold Scalar.select
  exact if_congr hb rfl rfl

theorem olt_bit (x y : EReal) : Ideal.cmp .olt x y = 1#1 ↔ x < y := by
  unfold Ideal.cmp
  rw [StableHlo.Predicate.ofBool_eq_one_iff, decide_eq_true_eq]

theorem oge_bit (x y : EReal) : Ideal.cmp .oge x y = 1#1 ↔ y ≤ x := by
  unfold Ideal.cmp
  rw [StableHlo.Predicate.ofBool_eq_one_iff, decide_eq_true_eq]

/-- The level kept, at a column. -/
theorem keep_apply (bits : BitVec 32) (before after lev kept : FVec Ideal S1x4096 .f32) (t : Fin 4096) :
    keep bits before after lev kept (ix2 0 t)
      = if before (ix2 0 t) < Ideal.ofBits .f32 bits ∧ Ideal.ofBits .f32 bits ≤ after (ix2 0 t) then lev (ix2 0 t)
        else kept (ix2 0 t) := by
  refine select_if _ (IntOp.andi (Ideal.cmp .olt (before (ix2 0 t)) (Ideal.ofBits .f32 bits))
    (Ideal.cmp .oge (after (ix2 0 t)) (Ideal.ofBits .f32 bits))) ?_ _ _
  rw [IntOp.andi_eq_one, olt_bit, oge_bit]

/-- The level kept in the first round, at a column. -/
theorem keepFirst_apply (bits : BitVec 32) (after lev : FVec Ideal S1x4096 .f32) (t : Fin 4096) :
    keepFirst bits after lev (ix2 0 t) = if Ideal.ofBits .f32 bits ≤ after (ix2 0 t) then lev (ix2 0 t) else 0 := by
  pointwise [keepFirst]

variable (s : Fin 88 → Fin 64) (e : FVec Ideal S64x4096 .f32) (w : FVec Ideal S1x64 .f32) (t : Fin 4096)

/-- The energies of the runs in column `t`. -/
abbrev col : Fin 64 → EReal := fun d => e (ix2 d t)

/-- The largest energy of a column is the level of the empty marking. -/
theorem colMax_level : colMax e (ix2 0 t) = level (col e t) fun _ => False := by
  classical
  pointwise [colMax]
  rw [Consts.neg_inf]
  unfold level Finset.sup
  exact Finset.fold_congr fun x _ => (if_neg not_false).symm

/-- The largest energy of a column once the marked ones are hidden is the level of the marking. -/
theorem colMax_hide (seen : IVec S64x4096 1) (C : Fin 64 → Prop) (hC : ∀ d, seen (ix2 d t) = 1#1 ↔ C d) :
    colMax (hide e seen) (ix2 0 t) = level (col e t) C := by
  classical
  pointwise [colMax]
  rw [Consts.neg_inf]
  unfold level Finset.sup
  refine Finset.fold_congr fun x _ => ?_
  pointwise [hide]
  rw [Consts.neg_inf]
  exact select_if _ _ (hC x) _ _

/-- What reaches the level in a column. -/
theorem reach_bit (lev : FVec Ideal S1x4096 .f32) (d : Fin 64) :
    reach e lev (ix2 d t) = 1#1 ↔ lev (ix2 0 t) ≤ e (ix2 d t) := by
  pointwise [reach]
  rw [StableHlo.Predicate.ofBool_eq_one_iff, decide_eq_true_eq]

/-- The multiplicities of the marked runs add up to the number of keys held. -/
theorem countOf_held (hw : ∀ d, w (ix2 0 d) = (((Finset.univ.filter fun k => s k = d).card : ℝ) : EReal))
    (seen : IVec S64x4096 1) (C : Fin 64 → Prop) (hC : ∀ d, seen (ix2 d t) = 1#1 ↔ C d) :
    countOf w seen (ix2 0 t) = ((held s C : ℝ) : EReal) := by
  classical
  pointwise [countOf, ones]
  have e1 : ∀ d, Scalar.select (seen (ix2 d t)) (w (ix2 0 d)) 0
      = (((if C d then (Finset.univ.filter fun k => s k = d).card else 0 : ℕ) : ℝ) : EReal) := by
    intro d
    rw [select_if _ _ (hC d), hw d]
    split_ifs <;> simp
  rw [Finset.sum_congr rfl fun d _ => e1 d]
  have e2 : held s C = ∑ d, if C d then (Finset.univ.filter fun k => s k = d).card else 0 := by
    unfold held
    rw [Finset.card_eq_sum_card_fiberwise (f := s) (t := Finset.univ) (fun _ _ => Finset.mem_coe.2 (Finset.mem_univ _))]
    refine Finset.sum_congr rfl fun d _ => ?_
    rw [Finset.filter_filter]
    by_cases h : C d
    · rw [if_pos h]
      congr 1
      ext k
      simp only [Finset.mem_filter, Finset.mem_univ, true_and]
      exact ⟨fun x => x.2, fun x => ⟨x ▸ h, x⟩⟩
    · rw [if_neg h, Finset.card_eq_zero]
      ext k
      simp only [Finset.mem_filter, Finset.mem_univ, true_and, Finset.notMem_empty, iff_false]
      exact fun x => h (x.2 ▸ x.1)
  rw [e2]
  push_cast
  rfl

theorem count_lt (a b : ℕ) : (((a : ℝ) : EReal) < ((b : ℝ) : EReal)) ↔ a < b := by
  rw [EReal.coe_lt_coe_iff, Nat.cast_lt]

theorem count_le (a b : ℕ) : (((a : ℝ) : EReal) ≤ ((b : ℝ) : EReal)) ↔ a ≤ b := by
  rw [EReal.coe_le_coe_iff, Nat.cast_le]

/-- What a state of the rounds says of column `t` after `r` rounds. -/
def Reads (st : State Ideal) (r : ℕ) : Prop :=
  ∃ C : Fin 64 → Prop, (∀ d, st.seen (ix2 d t) = 1#1 ↔ C d) ∧ st.count (ix2 0 t) = ((held s C : ℝ) : EReal)
    ∧ Kept s (col e t) C (st.fourteenth (ix2 0 t)) (st.fifteenth (ix2 0 t)) r

variable (hw : ∀ d, w (ix2 0 d) = (((Finset.univ.filter fun k => s k = d).card : ℝ) : EReal))
  (he : ∀ d, 0 ≤ e (ix2 d t)) (hpad : ∀ d, (∃ k, s k = d) ∨ e (ix2 d t) = 0)
include hw he hpad

/-- The first round. -/
theorem reads_first : Reads s e t (first e w) 1 := by
  have hr : ∀ d, reach e (colMax e) (ix2 d t) = 1#1 ↔ reached (col e t) (fun _ => False) d := fun d => by
    rw [reach_bit, colMax_level]; rfl
  have hc := countOf_held s w t hw _ _ hr
  have e14 : Ideal.ofBits .f32 0x41600000#32 = (((14 : ℕ) : ℝ) : EReal) := Consts.fourteen
  have e15 : Ideal.ofBits .f32 0x41700000#32 = (((15 : ℕ) : ℝ) : EReal) := Consts.fifteen
  refine ⟨reached (col e t) fun _ => False, hr, hc, kept_first s (col e t) he hpad (by omega) _ _ (fun h => ?_) fun h => ?_⟩
  · unfold first
    dsimp only
    rw [keepFirst_apply, hc, e14, if_pos ((count_le _ _).2 h), colMax_level]
  · unfold first
    dsimp only
    rw [keepFirst_apply, hc, e15, if_pos ((count_le _ _).2 h), colMax_level]

/-- A later round. -/
theorem reads_next (st : State Ideal) (r : ℕ) (hr : r < 88) (h : Reads s e t st r) : Reads s e t (next e w st) (r + 1) := by
  obtain ⟨C, hC, hcount, hk⟩ := h
  have hl := colMax_hide e t st.seen C hC
  have hb : ∀ d, reach e (colMax (hide e st.seen)) (ix2 d t) = 1#1 ↔ reached (col e t) C d := fun d => by
    rw [reach_bit, hl]; rfl
  have hc := countOf_held s w t hw _ _ hb
  have e14 : Ideal.ofBits .f32 0x41600000#32 = (((14 : ℕ) : ℝ) : EReal) := Consts.fourteen
  have e15 : Ideal.ofBits .f32 0x41700000#32 = (((15 : ℕ) : ℝ) : EReal) := Consts.fifteen
  refine ⟨reached (col e t) C, hb, hc, kept_next s (col e t) he hpad hk hr ?_ ?_⟩
  · unfold next
    dsimp only
    rw [keep_apply, hc, hcount, e14, hl]
    exact if_congr (by rw [count_lt, count_le]) rfl rfl
  · unfold next
    dsimp only
    rw [keep_apply, hc, hcount, e15, hl]
    exact if_congr (by rw [count_lt, count_le]) rfl rfl

/-- After the first round and `n` later ones. -/
theorem reads_after (n : ℕ) (hn : n < 88) : Reads s e t (after e w n) (n + 1) := by
  induction n with
  | zero => exact reads_first s e w t hw he hpad
  | succ n ih =>
    have h := reads_next s e w t hw he hpad _ _ hn (ih (by omega))
    unfold after at h ⊢
    rw [Function.iterate_succ_apply']
    exact h

/-- After fifteen rounds an energy reaches the threshold of its column exactly when fewer than 14 of the keys'
    energies are above it. -/
theorem threshold_le_iff (k : Fin 88) : threshold (after e w 14) (ix2 0 t) ≤ e (ix2 (s k) t)
    ↔ above (fun k => e (ix2 (s k) t)) (e (ix2 (s k) t)) < 14 := by
  obtain ⟨C, -, -, hk⟩ := reads_after s e w t hw he hpad 14 (by omega)
  have hm := hk.many
  have key := mean_le_iff (fun k => e (ix2 (s k) t)) (fun k => he _) (by omega) (q := 6553 / 131072) (p := 124519 / 131072)
    (by norm_num) (by norm_num) (by norm_num) (hk.fifteenth (by omega)) (hk.fourteenth (by omega)) k
  rw [← key]
  pointwise [threshold]
  rw [Consts.lowWeight, Consts.highWeight]

/-- What the body leaves for key `k` in column `t`, where row `k` of the key matrix marks the key's run. -/
theorem spread_apply (p : FVec Ideal S88x64 .bf16) (k : Fin 88) (hp : ∀ d, p (ix2 k d) = if s k = d then 1 else 0) :
    spread p e (threshold (after e w 14)) (ix2 k t)
      = if above (fun k => e (ix2 (s k) t)) (e (ix2 (s k) t)) < 14 then 1 else 0 := by
  pointwise [spread, ones, reach]
  rw [Finset.sum_eq_single (s k)]
  · rw [hp, if_pos rfl]
    exact (one_mul _).trans (if_congr (threshold_le_iff s e w t hw he hpad k) rfl rfl)
  · intro d _ hd
    rw [hp, if_neg hd.symm]
    exact zero_mul _
  · exact fun h => absurd (Finset.mem_univ _) h

end Cert.Proof.Columns

end
-- ==== Proof.KernelArray.lean ====
/- The kernel's two result arrays: every block the launch writes back is the block of the answer, so the arrays end
   holding the answer. -/
module

public import proofs.«01_k».proof.Proof.Energies
public import proofs.«01_k».proof.Proof.Columns
public import proofs.«01_k».proof.Proof.Gen.KernelIdeal.Value
public import Idealize.ShloMosaic.Lib.Pipeline.ValueKit

@[expose] public section

set_option maxRecDepth 16384

noncomputable section

namespace Cert.Proof.KernelArray

open Idealize.ShloMosaic Idealize.ShloMosaic.TcCoe Cert.KernelIdeal Cert.KernelIdeal.Gen Cert.Proof.Rounds
  Cert.Proof.HostArrays Cert.Proof.HostValue Cert.Proof.Runs Cert.Proof.Energies Cert.Proof.Select

section Block

/-- The five blocks that every grid point finds alike: the selection matrices, the two stand-in columns, the
    multiplicities and the key matrix. -/
abbrev sel (kb : Words) : Vec Ideal S192x128 .f32 := selection (F := Ideal) (bins Ideal kb)
abbrev two (kb : Words) : Vec Ideal S64x1 .f32 := standin (F := Ideal) 2#32 (bins Ideal kb)
abbrev three (kb : Words) : Vec Ideal S64x1 .f32 := standin (F := Ideal) 3#32 (bins Ideal kb)
abbrev mult (kb : Words) : Vec Ideal S1x64 .f32 := keysPerRun (F := Ideal) kb
abbrev keyMat (kb : Words) : Vec Ideal S88x64 .bf16 := truncf .bf16 (keys (F := Ideal) kb) bitsLt_bf16_f32

/-- The energies of the runs in a block. -/
abbrev energiesOf (kb : Words) (x5 : Vec Ideal S1x128x4096 .f32) : FVec Ideal S64x4096 .f32 :=
  k0_pay74 (sel kb) (two kb) (three kb) (mult kb) (keyMat kb) x5

/-- The masks of a block, before they are stored. -/
def masksOf (kb : Words) (x5 : Vec Ideal S1x128x4096 .f32) : FVec Ideal S88x4096 .f32 :=
  spread (F := Ideal) (keyMat kb) (energiesOf kb x5)
    (threshold (after (energiesOf kb x5) (k0_pay75 (sel kb) (two kb) (three kb) (mult kb) (keyMat kb) x5) 14))

variable {kb : Words} (h : Ok kb) (x5 : Vec Ideal S1x128x4096 .f32)

/-- What the body leaves for a key at a time. -/
theorem masksOf_apply (k : Fin 88) (t : Fin 4096) : masksOf kb x5 (ix2 k t)
    = if above (fun k => product (fun b => Ideal.exp (x5 (ix3 0 b t))) (bin h k))
        (product (fun b => Ideal.exp (x5 (ix3 0 b t))) (bin h k)) < 14 then 1 else 0 := by
  have he : ∀ k, energiesOf kb x5 (ix2 (run h k) t) = product (fun b => Ideal.exp (x5 (ix3 0 b t))) (bin h k) :=
    fun k => energies_used _ _ x5 t h k
  have hz : ∀ d, (∀ k, run h k ≠ d) → energiesOf kb x5 (ix2 d t) = 0 :=
    fun d hd => energies_unused _ _ _ _ x5 d t h hd
  have key := Columns.spread_apply (run h) (energiesOf kb x5)
    (k0_pay75 (sel kb) (two kb) (three kb) (mult kb) (keyMat kb) x5) t ?_ ?_ ?_ (keyMat kb) k ?_
  · simp only [he] at key
    exact key
  · intro d
    refine Eq.trans ?_ (keysPerRun_apply h d)
    unfold k0_pay75
    pointwise [k0_pay5]
  · intro d
    by_cases hd : ∃ k, run h k = d
    · obtain ⟨k, rfl⟩ := hd
      rw [he]
      exact product_nonneg (fun b => exp_nonneg _) _
    · exact (hz d fun k hk => hd ⟨k, hk⟩).ge
  · intro d
    by_cases hd : ∃ k, run h k = d
    · exact .inl hd
    · exact .inr (hz d fun k hk => hd ⟨k, hk⟩)
  · intro d
    refine Eq.trans ?_ (keys_apply h k d)
    pointwise

/-- Reading a whole key matrix reads it as it is. -/
theorem ld_keys (p : Vec Ideal S88x64 .bf16) : View.ld p r0_4 = p :=
  View.ld_unit_zero (funext fun a => by fin_cases a <;> rfl) _ _

/-- The block stored for the first result. -/
theorem out6_apply (k : Fin 88) (t : Fin 4096) :
    out0_6 (sel kb) (two kb) (three kb) (mult kb) (keyMat kb) x5 (ix3 0 k t) = masksOf kb x5 (ix2 k t) := by
  unfold out0_6 k0_pay2
  rw [body_eq, View.canon_unit_zero (funext fun a => by fin_cases a <;> rfl), ld_keys]
  change shapeCast S1x88x4096 (masksOf kb x5) shapeCasts_S88x4096_S1x88x4096 (ix3 0 k t) = _
  pointwise

/-- The block stored for the second result. -/
theorem out7_apply (k : Fin 88) (t : Fin 4096) :
    out0_7 (sel kb) (two kb) (three kb) (mult kb) (keyMat kb) x5 (ix3 0 k t) = masksOf kb x5 (ix2 k t) := by
  unfold out0_7 k0_pay3
  rw [body_eq, View.canon_unit_zero (funext fun a => by fin_cases a <;> rfl), ld_keys]
  change shapeCast S1x88x4096 (masksOf kb x5) shapeCasts_S88x4096_S1x88x4096 (ix3 0 k t) = _
  pointwise

end Block

section Array

variable (m : (ℓ : Loc nD τ sig) → Buf (Elt Ideal) ℓ) (c : Dev nD)

theorem index0 : ∀ t : Fin cfg0.N, win0_0.index t = ![0, 0] := (by decide +kernel : ∀ t : Fin grid0.N, _)
theorem index1 : ∀ t : Fin cfg0.N, win0_1.index t = ![0, 0] := (by decide +kernel : ∀ t : Fin grid0.N, _)
theorem index2 : ∀ t : Fin cfg0.N, win0_2.index t = ![0, 0] := (by decide +kernel : ∀ t : Fin grid0.N, _)
theorem index3 : ∀ t : Fin cfg0.N, win0_3.index t = ![0, 0] := (by decide +kernel : ∀ t : Fin grid0.N, _)
theorem index4 : ∀ t : Fin cfg0.N, win0_4.index t = ![0, 0] := (by decide +kernel : ∀ t : Fin grid0.N, _)
theorem index5 : ∀ t : Fin cfg0.N, win0_5.index t = ![t.val, 0, 0] := (by decide +kernel : ∀ t : Fin grid0.N, _)
theorem index6 : ∀ t : Fin cfg0.N, win0_6.index t = ![t.val, 0, 0] := (by decide +kernel : ∀ t : Fin grid0.N, _)
theorem index7 : ∀ t : Fin cfg0.N, win0_7.index t = ![t.val, 0, 0] := (by decide +kernel : ∀ t : Fin grid0.N, _)

/-- Every point finds the whole selection matrices. -/
theorem iblk0_eq (t : Fin cfg0.N) : (iblk m c 0 t : Vec Ideal S192x128 .f32) = sel (binsArg m c) := by
  refine Eq.trans ?_ (V_selection m c)
  funext y
  blk_ext [iblk, index0]

/-- Every point finds the whole stand-in columns. -/
theorem iblk1_eq (t : Fin cfg0.N) : (iblk m c 1 t : Vec Ideal S64x1 .f32) = two (binsArg m c) := by
  refine Eq.trans ?_ (V_standin2 m c)
  funext y
  blk_ext [iblk, index1]

theorem iblk2_eq (t : Fin cfg0.N) : (iblk m c 2 t : Vec Ideal S64x1 .f32) = three (binsArg m c) := by
  refine Eq.trans ?_ (V_standin3 m c)
  funext y
  blk_ext [iblk, index2]

/-- Every point finds all the multiplicities. -/
theorem iblk3_eq (t : Fin cfg0.N) : (iblk m c 3 t : Vec Ideal S1x64 .f32) = mult (binsArg m c) := by
  refine Eq.trans ?_ (V_multiplicity m c)
  funext y
  blk_ext [iblk, index3]

/-- Every point finds the whole key matrix. -/
theorem iblk4_eq (t : Fin cfg0.N) : (iblk m c 4 t : Vec Ideal S88x64 .bf16) = keyMat (binsArg m c) := by
  refine Eq.trans ?_ (V_keys m c)
  funext y
  blk_ext [iblk, index4]

/-- Point `t` finds batch `t` of the spectrogram. -/
theorem iblk5_apply (t : Fin cfg0.N) (b : Fin 128) (n : Fin 4096) :
    (iblk m c 5 t : Vec Ideal S1x128x4096 .f32) (ix3 0 b n)
      = (m ((c : Thread nD τ).loc main_arg0) : FVec Ideal S32x128x4096 .f32) (ix3 ⟨t.val, t.isLt⟩ b n) := by
  rw [← V_main_arg0 m c]
  blk_ext [iblk, index5]

variable (h : Ok (binsArg m c))

/-- The masks of batch `t` are the batch of the answer. -/
theorem masks_answer (t : Fin cfg0.N) (k : Fin 88) (n : Fin 4096) :
    masksOf (binsArg m c) (iblk m c 5 t) (ix2 k n) = answer h (m ((c : Thread nD τ).loc main_arg0)) (ix3 ⟨t.val, t.isLt⟩ k n) := by
  rw [masksOf_apply h]
  simp only [iblk5_apply m c t]
  rfl

/-- The first result array ends holding the answer. -/
theorem array6 : (dats m 0 c).arrAt 6 cfg0.N = answer h (m ((c : Thread nD τ).loc main_arg0)) := by
  refine (dats m 0 c).arrAt_eq_of_covers 6 _ (by decide +kernel) fun t hf y => ?_
  blk_simp
  rw [after0_6, iblk0_eq, iblk1_eq, iblk2_eq, iblk3_eq, iblk4_eq]
  have hy : y = ix3 0 (y 1) (y 2) := by
    refine (eq_ix3 y).trans ?_
    congr 1
    exact Subsingleton.elim (α := Fin 1) _ _
  rw [hy]
  refine (out6_apply _ _ _).trans ((masks_answer m c h t _ _).trans ?_)
  blk_ext [index6]

/-- The second result array ends holding the answer. -/
theorem array7 : (dats m 0 c).arrAt 7 cfg0.N = answer h (m ((c : Thread nD τ).loc main_arg0)) := by
  refine (dats m 0 c).arrAt_eq_of_covers 7 _ (by decide +kernel) fun t hf y => ?_
  blk_simp
  rw [after0_7, iblk0_eq, iblk1_eq, iblk2_eq, iblk3_eq, iblk4_eq]
  have hy : y = ix3 0 (y 1) (y 2) := by
    refine (eq_ix3 y).trans ?_
    congr 1
    exact Subsingleton.elim (α := Fin 1) _ _
  rw [hy]
  refine (out7_apply _ _ _).trans ((masks_answer m c h t _ _).trans ?_)
  blk_ext [index7]

end Array

end Cert.Proof.KernelArray

end
-- ==== Proof.RefArrays.lean ====
/- The arrays of the reference, by name: the harmonic products, the energies of the keys, the sorted energies, the two
   entries the percentile lies between, the threshold and the marks. The reference's result is the last of them. -/
module

public import proofs.«01_k».proof.Proof.Gen.ReferenceIdeal.Run

@[expose] public section

set_option maxRecDepth 16384

noncomputable section

namespace Cert.Proof.RefArrays

open Idealize.ShloMosaic Idealize.ShloMosaic.Host Idealize.SL.Sem Cert.ReferenceIdeal Cert.ReferenceIdeal.Gen

variable {F : FTy → Type} [FloatOps F]

/-- The spectrum multiplied by itself at twice the bin, on the bins for which that is on the axis. -/
def twice (s : FVec F S32x128x4096 .f32) : FVec F S32x128x4096 .f32 :=
  concatenate S32x128x4096 1
    [⟨S32x64x4096, mulf (extractStridedSlice S32x64x4096 ![0, 0, 0] s slices_S32x128x4096_S32x64x4096_0_0_0)
        (Host.slice S32x64x4096 ![0, 0, 0] ![1, 2, 1] s slicesBy_S32x128x4096_S32x64x4096_0s1_0s2_0s1)⟩,
      ⟨S32x64x4096, extractStridedSlice S32x64x4096 ![0, 64, 0] s slices_S32x128x4096_S32x64x4096_0_64_0⟩]
    concatenates_S32x64x4096_S32x64x4096_S32x128x4096_d1

/-- An array multiplied by the spectrum at three times the bin, on the bins for which that is on the axis. -/
def thrice (s h : FVec F S32x128x4096 .f32) : FVec F S32x128x4096 .f32 :=
  concatenate S32x128x4096 1
    [⟨S32x43x4096, mulf (extractStridedSlice S32x43x4096 ![0, 0, 0] h slices_S32x128x4096_S32x43x4096_0_0_0)
        (Host.slice S32x43x4096 ![0, 0, 0] ![1, 3, 1] s slicesBy_S32x128x4096_S32x43x4096_0s1_0s3_0s1)⟩,
      ⟨S32x85x4096, extractStridedSlice S32x85x4096 ![0, 43, 0] h slices_S32x128x4096_S32x85x4096_0_43_0⟩]
    concatenates_S32x43x4096_S32x85x4096_S32x128x4096_d1

/-- The bins with a negative one counted from the end. -/
def wrapped (kb : IVec S88 32) : IVec S88x1 32 :=
  broadcastInDim S88x1 ![0] bcast_S88_S88x1_0
    (select (cmpi .slt kb (broadcastInDim S88 ![] bcast_S_S88 (constantI S_ 32 0#32)))
      (addi kb (broadcastInDim S88 ![] bcast_S_S88 (constantI S_ 32 128#32))) kb)

/-- The energies: each key's row of the harmonic products. -/
def energies (x : FVec F S32x128x4096 .f32) (kb : IVec S88 32) : FVec F S32x88x4096 .f32 :=
  Host.gather gather_S32x128x4096_S88x1_S32x88x4096_02_1_n_n_1_1_3214096
    (thrice (Host.exp x) (twice (Host.exp x))) (wrapped kb)

/-- The energies, all of a time's NaN where one of them is. -/
def guarded (e : FVec F S32x88x4096 .f32) : FVec F S32x88x4096 .f32 :=
  select (broadcastInDim S32x88x4096 ![0, 1, 2] bcast_S32x1x4096_S32x88x4096_0_1_2
      (broadcastInDim S32x1x4096 ![0, 2] bcast_S32x4096_S32x1x4096_0_2
        (Host.reduce IntOp.ori (cmpf .une e e) (constantI S_ 1 0#1) reducesTo_S32x88x4096_S32x4096_d1 h_S_)))
    (broadcastInDim S32x88x4096 ![] bcast_S_S32x88x4096 (id (constant S_ .f32 0x7FC00000#32))) e

/-- The energies of each time in ascending order. -/
def sorted (e : FVec F S32x88x4096 .f32) : FVec F S32x88x4096 .f32 :=
  Host.sort S32x88x4096 1 comparator_f32_d1 (guarded e)

/-- The last position of a sorted column. -/
def last : FVec F S_ .f32 := subf (constant S_ .f32 0x42B00000#32) (constant S_ .f32 0x3F800000#32)

/-- Where in the sorted column the percentile lies. -/
def position : FVec F S_ .f32 :=
  mulf (Host.divf (constant S_ .f32 0x42AA0000#32) (constant S_ .f32 0x42C80000#32)) last

/-- A position as an index, kept inside the column. -/
def index (p : FVec F S_ .f32) : IVec S_ 32 :=
  fptosi 32 (minimumf (maximumf p (constant S_ .f32 0x00000000#32)) last : FVec F S_ .f32)

/-- The sorted row at an index. -/
def entry (s : FVec F S32x88x4096 .f32) (i : IVec S_ 32) : FVec F S32x1x4096 .f32 :=
  Host.gather gather_S32x88x4096_S1_S32x1x4096_012_n_n_n_1_0_3214096 s (broadcastInDim S1 ![] bcast_S_S1 i)

/-- How far the percentile lies above the lower of its two neighbours. -/
def fraction : FVec F S_ .f32 := subf position (Host.floor position)

/-- The mean of a sorted array's rows at two indices, the weight of the second given. -/
def between (s : FVec F S32x88x4096 .f32) (i j : IVec S_ 32) (w : FVec F S_ .f32) : FVec F S32x1x4096 .f32 :=
  addf (mulf (entry s i) (broadcastInDim S32x1x4096 ![] bcast_S_S32x1x4096 (subf (constant S_ .f32 0x3F800000#32) w)))
    (mulf (entry s j) (broadcastInDim S32x1x4096 ![] bcast_S_S32x1x4096 w))

/-- The percentile of every time: the mean of its two neighbours in the sorted column, weighted by the distances. -/
def threshold (e : FVec F S32x88x4096 .f32) : FVec F S32x1x4096 .f32 :=
  between (sorted e) (index (Host.floor (position (F := F)))) (index (Host.ceil (position (F := F)))) fraction

/-- The marks: one where an energy reaches the threshold of its time, else zero. -/
def marks (e : FVec F S32x88x4096 .f32) (th : FVec F S32x1x4096 .f32) : FVec F S32x88x4096 .f32 :=
  select (cmpf .oge e (broadcastInDim S32x88x4096 ![0, 1, 2] bcast_S32x1x4096_S32x88x4096_0_1_2 th))
    (broadcastInDim S32x88x4096 ![] bcast_S_S32x88x4096 (constant S_ .f32 0x3F800000#32))
    (broadcastInDim S32x88x4096 ![] bcast_S_S32x88x4096 (constant S_ .f32 0x00000000#32))

/-- The reference's result is the marks of the energies against their percentile. -/
theorem result_eq (m : (ℓ : Loc nD τ sig) → Buf (Elt F) ℓ) (c : Dev nD) :
    Value.res_main_v22 m c
      = marks (energies (m ((c.tc : Thread nD τ).loc main_arg0)) (m ((c.tc : Thread nD τ).loc main_arg1)))
          (threshold (energies (m ((c.tc : Thread nD τ).loc main_arg0)) (m ((c.tc : Thread nD τ).loc main_arg1)))) :=
  rfl

end Cert.Proof.RefArrays
-- ==== Proof.RefEnergies.lean ====
/- The reference's energies at exact arithmetic: row `k` at a time is the harmonic product of the exponentials at the
   key's bin. -/
module

public import proofs.«01_k».proof.Proof.RefArrays
public import proofs.«01_k».proof.Proof.Energies
public import Idealize.ShloMosaic.Lib.Affine
public import Idealize.ShloMosaic.Lib.StableHlo.Predicate

@[expose] public section

set_option maxRecDepth 16384

noncomputable section

namespace Cert.Proof.RefEnergies

open Idealize.ShloMosaic Cert.ReferenceIdeal Cert.ReferenceIdeal.Gen Cert.Proof.RefArrays Cert.Proof.Energies

/-- The gather of the keys' rows, at an index: the row its index word names, held inside the axis. -/
theorem gather_keys {α : Type} (x : S32x128x4096.Idx → α) (i : IVec S88x1 32) (b : Fin 32) (k : Fin 88)
    (t : Fin 4096) :
    Host.gather gather_S32x128x4096_S88x1_S32x88x4096_02_1_n_n_1_1_3214096 x i (ix3 b k t)
      = x (ix3 b ⟨min (i (ix2 k 0)).toInt.toNat 127, by omega⟩ t) := by
  refine congrArg x (funext fun a => Fin.ext ?_)
  match a with
  | ⟨0, _⟩ => exact (show 0 + 0 + (b : ℕ) = b by omega)
  | ⟨1, _⟩ =>
    change min (i _).toInt.toNat 127 = min (i (ix2 k 0)).toInt.toNat 127
    congr 4
    funext a
    refine Fin.ext ?_
    match a with
    | ⟨0, _⟩ => rfl
    | ⟨1, _⟩ => rfl
  | ⟨2, _⟩ => exact (show 0 + 0 + (t : ℕ) = t by omega)

/-- The product with the spectrum at twice the bin. -/
theorem twice_apply (s : FVec Ideal S32x128x4096 .f32) (b : Fin 32) (n : Fin 128) (t : Fin 4096) :
    twice s (ix3 b n t) = s (ix3 b n t) * overtone (fun b' => s (ix3 b b' t)) (2 * n) := by
  pointwise [twice]
  unfold overtone
  by_cases h : (n : ℕ) < 64
  · rw [dif_pos h, dif_pos (by omega)]
  · rw [dif_neg h, dif_neg (by omega), mul_one]
    congr 2
    exact Fin.ext (by dsimp only; omega)

/-- The product with the spectrum at three times the bin. -/
theorem thrice_apply (s h : FVec Ideal S32x128x4096 .f32) (b : Fin 32) (n : Fin 128) (t : Fin 4096) :
    thrice s h (ix3 b n t) = h (ix3 b n t) * overtone (fun b' => s (ix3 b b' t)) (3 * n) := by
  pointwise [thrice]
  unfold overtone
  by_cases h : (n : ℕ) < 43
  · rw [dif_pos h, dif_pos (by omega)]
  · rw [dif_neg h, dif_neg (by omega), mul_one]
    congr 2
    exact Fin.ext (by dsimp only; omega)

/-- A bin in range is left as it is. -/
theorem wrapped_apply {kb : Runs.Words} (h : Runs.Ok kb) (k : Fin 88) :
    wrapped kb (ix2 k 0) = BitVec.ofNat 32 (Runs.bin h k) := by
  have hb := (Runs.bin h k).isLt
  pointwise [wrapped]
  rw [Runs.bin_spec h k]
  have z : IntOp.cmpi .slt (BitVec.ofNat 32 (Runs.bin h k)) 0#32 ≠ 1#1 := by
    rw [Ne, IntOp.cmpi_slt, StableHlo.Predicate.toInt_ofNat_small _ (by omega)]
    simp
  exact if_neg z

/-- The energies of the reference. -/
theorem energies_apply {kb : Runs.Words} (h : Runs.Ok kb) (x : FVec Ideal S32x128x4096 .f32) (b : Fin 32)
    (k : Fin 88) (t : Fin 4096) :
    energies x kb (ix3 b k t) = product (fun b' => Ideal.exp (x (ix3 b b' t))) (Runs.bin h k) := by
  have hb := (Runs.bin h k).isLt
  unfold energies
  rw [gather_keys]
  have e : (⟨min (wrapped kb (ix2 k 0)).toInt.toNat 127, by omega⟩ : Fin 128) = Runs.bin h k := by
    refine Fin.ext ?_
    have w : (wrapped kb (ix2 k 0)).toInt = ((Runs.bin h k : ℕ) : ℤ) := by
      rw [wrapped_apply h k, StableHlo.Predicate.toInt_ofNat_small _ (by omega)]
    dsimp only
    omega
  rw [e, thrice_apply, twice_apply]
  rfl

end Cert.Proof.RefEnergies

end
-- ==== Proof.RefThreshold.lean ====
/- The reference's threshold at exact arithmetic: the sorted column's entries 73 and 74 are the 15th and the 14th
   largest energies, the threshold is a weighted mean of the two, and reaching it is having fewer than 14 energies
   above. -/
module

public import proofs.«01_k».proof.Proof.RefArrays
public import proofs.«01_k».proof.Proof.HostValue
public import proofs.«01_k».proof.Proof.Select
public import proofs.«01_k».proof.Proof.Columns
public import Idealize.ShloMosaic.Lib.SortFacts
public import Idealize.ShloMosaic.Lib.Routing.OpsOrder

@[expose] public section

set_option maxRecDepth 16384

noncomputable section

namespace Cert.Proof.RefThreshold

open Idealize.ShloMosaic Cert.ReferenceIdeal Cert.ReferenceIdeal.Gen Cert.Proof.RefArrays Cert.Proof.Select

/-- The gather of one row of the sorted array, at an index: the row its word names, held inside the axis. -/
theorem gather_row {α : Type} (x : S32x88x4096.Idx → α) (i : IVec S1 32) (b : Fin 32) (t : Fin 4096) :
    Host.gather gather_S32x88x4096_S1_S32x1x4096_012_n_n_n_1_0_3214096 x i (ix3 b 0 t)
      = x (ix3 b ⟨min (i (ix1 0)).toInt.toNat 87, by omega⟩ t) := by
  refine congrArg x (funext fun a => Fin.ext ?_)
  match a with
  | ⟨0, _⟩ => exact (show 0 + 0 + (b : ℕ) = b by omega)
  | ⟨1, _⟩ =>
    change min (i _).toInt.toNat 87 = min (i (ix1 0)).toInt.toNat 87
    congr 4
    funext a
    refine Fin.ext ?_
    match a with
    | ⟨0, _⟩ => rfl
  | ⟨2, _⟩ => exact (show 0 + 0 + (t : ℕ) = t by omega)

/-- The row at an index inside the column. -/
theorem entry_apply (s : FVec Ideal S32x88x4096 .f32) (i : IVec S_ 32) (n : Fin 88)
    (hi : i ix0 = BitVec.ofNat 32 n) (b : Fin 32) (t : Fin 4096) : entry s i (ix3 b 0 t) = s (ix3 b n t) := by
  have hn := n.isLt
  unfold entry
  rw [gather_row]
  have w : (broadcastInDim S1 ![] bcast_S_S1 i (ix1 0)).toInt = ((n : ℕ) : ℤ) := by
    have e : broadcastInDim S1 ![] bcast_S_S1 i (ix1 0) = i ix0 := by pointwise
    rw [e, hi, StableHlo.Predicate.toInt_ofNat_small _ (by omega)]
  congr 2
  refine Fin.ext ?_
  dsimp only
  omega

/-- No extended real differs from itself, so nothing is replaced before the sort. -/
theorem guarded_apply (e : FVec Ideal S32x88x4096 .f32) (b : Fin 32) (k : Fin 88) (t : Fin 4096) :
    guarded e (ix3 b k t) = e (ix3 b k t) := by
  pointwise [guarded]
  refine (Columns.select_if False _ ?_ _ _).trans (if_neg not_false)
  rw [Routing.fold_ori]
  simp

/-- The comparison the sort goes by is «less than». -/
theorem comparator_bit (x y : EReal) : (comparator_f32_d1 (F := Ideal) x y == 1#1) = decide (x < y) := by
  have z (v : EReal) : Scalar.select (Ideal.cmp .une v v) (Ideal.ofBits .f32 0x7FC00000#32)
      (Scalar.select (Ideal.cmp .oeq v (Ideal.ofBits .f32 0x00000000#32)) (Ideal.ofBits .f32 0x00000000#32) v) = v := by
    rw [Columns.select_if False _ (by simp [Ideal.cmp]), if_neg not_false,
      Columns.select_if (v = Ideal.ofBits .f32 0x00000000#32) _ (by
        unfold Ideal.cmp
        rw [StableHlo.Predicate.ofBool_eq_one_iff, decide_eq_true_eq])]
    split_ifs with h
    · exact h.symm
    · rfl
  have e : comparator_f32_d1 (F := Ideal) x y = Ideal.cmp .olt
      (Scalar.select (Ideal.cmp .une x x) (Ideal.ofBits .f32 0x7FC00000#32)
        (Scalar.select (Ideal.cmp .oeq x (Ideal.ofBits .f32 0x00000000#32)) (Ideal.ofBits .f32 0x00000000#32) x))
      (Scalar.select (Ideal.cmp .une y y) (Ideal.ofBits .f32 0x7FC00000#32)
        (Scalar.select (Ideal.cmp .oeq y (Ideal.ofBits .f32 0x00000000#32)) (Ideal.ofBits .f32 0x00000000#32) y)) := rfl
  rw [e, z, z, Bool.eq_iff_iff, beq_iff_eq, Columns.olt_bit, decide_eq_true_eq]

/-- The order the sort puts a column in. -/
def order (E : Fin 88 → EReal) : Fin 88 → Fin 88 := sortedFrom fun p q => decide (E p < E q)

/-- The sorted column. -/
theorem sorted_apply (e : FVec Ideal S32x88x4096 .f32) (b : Fin 32) (k : Fin 88) (t : Fin 4096) :
    sorted e (ix3 b k t) = e (ix3 b (order (fun n => e (ix3 b n t)) k) t) := by
  have along (n : Fin 88) : (ix3 b k t : S32x88x4096.Idx).along (1 : Fin 3) n = ix3 b n t := by
    funext a
    match a with
    | ⟨0, _⟩ => rfl
    | ⟨1, _⟩ => rfl
    | ⟨2, _⟩ => rfl
  unfold sorted Host.sort
  rw [dif_pos (show 1 < S32x88x4096.rank by decide)]
  change guarded e ((ix3 b k t : S32x88x4096.Idx).along (1 : Fin 3) (sortedFrom (fun p q : Fin 88 =>
      comparator_f32_d1 (F := Ideal) (guarded e ((ix3 b k t : S32x88x4096.Idx).along (1 : Fin 3) p))
        (guarded e ((ix3 b k t : S32x88x4096.Idx).along (1 : Fin 3) q)) == 1#1) k)) = _
  unfold order
  simp only [along, guarded_apply, comparator_bit]
  exact (congrArg (guarded e) (along _)).trans (guarded_apply e b _ t)

/-- Entry `i` of a sorted column is the `88 - i`-th largest. -/
theorem sorted_isNth (E : Fin 88 → EReal) (i : Fin 88) (r : ℕ) (hr : (i : ℕ) + r = 88) :
    IsNth E r (E (order E i)) := by
  refine isNth_of_sorted E (order E) ⟨sortedFrom_injective _, sortedFrom_surjective _⟩ (fun i j hij => ?_) i hr
  have h := sortedFrom_noInversion (fun p q : Fin 88 => decide (E p < E q)) (fun p q => decide (E p < E q))
    (fun a b h => decide_eq_false (not_lt.2 (of_decide_eq_true h).le)) (fun a b h => h)
    (fun a b c h g => decide_eq_false (not_lt.2
      ((not_lt.1 (of_decide_eq_false g)).trans (not_lt.1 (of_decide_eq_false h))))) i j hij
  exact not_lt.1 (of_decide_eq_false h)

/-- The last position is 87. -/
theorem last_apply : last (F := Ideal) ix0 = ((87 : ℝ) : EReal) := by
  pointwise [last]
  rw [Consts.eightyEight, ← EReal.coe_one, ← EReal.coe_sub]
  norm_num

/-- The percentile lies at 73.95. -/
theorem position_apply : position (F := Ideal) ix0 = ((1479 / 20 : ℝ) : EReal) := by
  pointwise [position]
  rw [last_apply, Consts.eightyFive, Consts.hundred, Ideal.div_coe (by norm_num), ← EReal.coe_mul, ← EReal.coe_mul]
  norm_num

/-- A whole position inside the column is its own index. -/
theorem index_apply (p : FVec Ideal S_ .f32) (n : ℕ) (hn : n ≤ 87) (hp : p ix0 = ((n : ℝ) : EReal)) :
    index p ix0 = BitVec.ofNat 32 n := by
  have h0 : (0 : EReal) ≤ ((n : ℝ) : EReal) := EReal.coe_nonneg.2 (Nat.cast_nonneg n)
  have h1 : ((n : ℝ) : EReal) ≤ ((87 : ℝ) : EReal) := EReal.coe_le_coe_iff.2 (by exact_mod_cast hn)
  have e : index p ix0 = Ideal.fptosi 32 (min (max (p ix0) 0) (last (F := Ideal) ix0)) := by
    pointwise [index]
    rfl
  rw [e, hp, last_apply, max_eq_left h0, min_eq_left h1, HostValue.fptosi_nat n (by omega)]

/-- The lower neighbour's index. -/
theorem index_floor : index (Host.floor (position (F := Ideal))) ix0 = BitVec.ofNat 32 73 := by
  refine index_apply _ 73 (by omega) ?_
  have e : Host.floor (position (F := Ideal)) ix0 = Ideal.liftRound Int.floor (position (F := Ideal) ix0) := by pointwise
  rw [e, position_apply, Ideal.liftRound_coe, show ⌊(1479 / 20 : ℝ)⌋ = 73 by rw [Int.floor_eq_iff]; norm_num]
  norm_num

/-- The upper neighbour's index. -/
theorem index_ceil : index (Host.ceil (position (F := Ideal))) ix0 = BitVec.ofNat 32 74 := by
  refine index_apply _ 74 (by omega) ?_
  have e : Host.ceil (position (F := Ideal)) ix0 = Ideal.liftRound Int.ceil (position (F := Ideal) ix0) := by pointwise
  rw [e, position_apply, Ideal.liftRound_coe, show ⌈(1479 / 20 : ℝ)⌉ = 74 by rw [Int.ceil_eq_iff]; norm_num]
  norm_num

/-- The percentile lies 0.95 above its lower neighbour. -/
theorem fraction_apply : fraction (F := Ideal) ix0 = ((19 / 20 : ℝ) : EReal) := by
  pointwise [fraction]
  rw [position_apply, Ideal.liftRound_coe, show ⌊(1479 / 20 : ℝ)⌋ = 73 by rw [Int.floor_eq_iff]; norm_num,
    ← EReal.coe_sub]
  norm_num

/-- The mean of two rows of a sorted array, at an index. -/
theorem between_apply (s : FVec Ideal S32x88x4096 .f32) (i j : IVec S_ 32) (w : FVec Ideal S_ .f32) (b : Fin 32)
    (t : Fin 4096) :
    between s i j w (ix3 b 0 t) = entry s i (ix3 b 0 t) * (1 - w ix0) + entry s j (ix3 b 0 t) * w ix0 := by
  pointwise [between]

/-- The threshold of a column. -/
theorem threshold_apply (e : FVec Ideal S32x88x4096 .f32) (b : Fin 32) (t : Fin 4096) :
    threshold e (ix3 b 0 t)
      = sorted e (ix3 b 73 t) * ((1 / 20 : ℝ) : EReal) + sorted e (ix3 b 74 t) * ((19 / 20 : ℝ) : EReal) := by
  unfold threshold
  rw [between_apply, entry_apply _ _ 73 index_floor, entry_apply _ _ 74 index_ceil, fraction_apply, ← EReal.coe_one,
    ← EReal.coe_sub, show (1 - 19 / 20 : ℝ) = 1 / 20 by norm_num]

/-- A mark, at an index. -/
theorem marks_apply (e : FVec Ideal S32x88x4096 .f32) (th : FVec Ideal S32x1x4096 .f32) (b : Fin 32) (k : Fin 88)
    (t : Fin 4096) : marks e th (ix3 b k t) = if th (ix3 b 0 t) ≤ e (ix3 b k t) then 1 else 0 := by
  pointwise [marks]

/-- Of energies that are never negative, the reference marks those with fewer than 14 above them. -/
theorem marked_apply (e : FVec Ideal S32x88x4096 .f32) (b : Fin 32) (k : Fin 88) (t : Fin 4096)
    (he : ∀ n, 0 ≤ e (ix3 b n t)) :
    marks e (threshold e) (ix3 b k t)
      = if above (fun n => e (ix3 b n t)) (e (ix3 b k t)) < 14 then 1 else 0 := by
  rw [marks_apply, threshold_apply, sorted_apply, sorted_apply]
  exact if_congr (mean_le_iff (fun n => e (ix3 b n t)) he (by omega) (by norm_num) (by norm_num) (by norm_num)
    (sorted_isNth _ 73 15 rfl) (sorted_isNth _ 74 14 rfl) k) rfl rfl

end Cert.Proof.RefThreshold

end
-- ==== Proof.RefValue.lean ====
/- The reference's result is the answer: the marks of the harmonic products against their percentile. -/
module

public import proofs.«01_k».proof.Proof.RefEnergies
public import proofs.«01_k».proof.Proof.RefThreshold

@[expose] public section

noncomputable section

namespace Cert.Proof.RefValue

open Idealize.ShloMosaic Idealize.SL.Sem Cert.ReferenceIdeal Cert.ReferenceIdeal.Gen Cert.Proof.Energies

/-- A mark of the reference's energies, at an index. -/
theorem mark {kb : Runs.Words} (h : Runs.Ok kb) (x : FVec Ideal S32x128x4096 .f32) (b : Fin 32) (k : Fin 88)
    (t : Fin 4096) :
    RefArrays.marks (RefArrays.energies x kb) (RefArrays.threshold (RefArrays.energies x kb)) (ix3 b k t)
      = answer h x (ix3 b k t) := by
  rw [RefThreshold.marked_apply _ _ _ _ fun n => by
    rw [RefEnergies.energies_apply h]
    exact product_nonneg (fun b => exp_nonneg _) _]
  simp only [RefEnergies.energies_apply h]
  rfl

/-- The reference's result on bins in range is the answer. -/
theorem result (m : (ℓ : Loc nD τ sig) → Buf (Elt Ideal) ℓ) (c : Dev nD)
    (h : Runs.Ok (m ((c.tc : Thread nD τ).loc main_arg1))) :
    Value.res_main_v22 m c = answer h (m ((c.tc : Thread nD τ).loc main_arg0)) := by
  rw [RefArrays.result_eq]
  funext i
  idx_vars i
  exact mark h _ _ _ _

end Cert.Proof.RefValue

end
-- ==== Proof.lean ====
/- The proof of the claim: the frames are the generated ones, and both programs' results are one named array, the
   answer of Proof/Energies.lean — the kernel's by Proof/KernelArray.lean, the reference's by Proof/RefValue.lean. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.ReferenceIdeal.Run
public import proofs.«01_k».proof.Proof.Gen.KernelIdeal.Value
public import Idealize.ShloMosaic.Adequacy
public import Idealize.ShloMosaic.Init
public import Idealize.ShloMosaic.Lib.Quiescent
public import proofs.«01_k».proof.Proof.KernelArray
public import proofs.«01_k».proof.Proof.RefValue

@[expose] public section

noncomputable section

namespace Cert.Proof

open Idealize.ShloMosaic Idealize.SL.Sem

/-- The side conditions of the precondition's operations. -/
theorem preFacts : Cert.Pre_bins_in_range_and_runs.Facts where
  slices_S88_S87_1 := by decide
  slices_S88_S87_0 := by decide
  natLt_1_32 := by decide
  reducesTo_S87_S_d0 := by decide
  h_S_ := by decide
  bcast_S_S88 := by decide

/-- The reference ends with its arguments as they were and every semaphore at zero. -/
theorem reference_frame (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal)))
      ⟨m, fun _ => 0, g⟩ (fun r => (∀ c : Dev Cert.ReferenceIdeal.nD,
        r.2.mem ((c.tc : Thread Cert.ReferenceIdeal.nD Cert.ReferenceIdeal.τ).loc Cert.ReferenceIdeal.main_arg0)
            = m ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1)
            = m ((c.tc : Thread Cert.ReferenceIdeal.nD Cert.ReferenceIdeal.τ).loc Cert.ReferenceIdeal.main_arg1))
        ∧ r.2.sem = fun _ => 0) :=
  (θ_run Cert.ReferenceIdeal.defs _ _).mono
    (fun r h => ⟨fun c => (h c).2.2, sem_eq_zero_of_no_sems (by decide) r.2⟩) (Cert.ReferenceIdeal.Value.run m g)

/-- The answer depends on the bins and the spectrum alone. -/
theorem answer_congr {kb kb' : Runs.Words} (h : Runs.Ok kb) (h' : Runs.Ok kb') (e : kb = kb')
    {x x' : FVec Ideal (⟨3, ![32, 128, 4096]⟩ : Shape) .f32} (ex : x = x') :
    Energies.answer h x = Energies.answer h' x' := by
  subst e ex
  rfl

/-- From the same arguments, with bins in range and few enough runs of equal bins, both programs leave the same
    arrays: every result of the kernel is the answer, and so is the reference's. -/
theorem same_results [Cert.Pre_bins_in_range_and_runs.Facts] :
    Cert.algebraic_KernelIdeal_ReferenceIdeal_pre_bins_in_range_and_runs := by
  intro m g m' g' hpre hargs
  have ok (c : Dev Cert.KernelIdeal.nD) := Runs.ok_of_pre _ (hpre c)
  have ok' (c : Dev Cert.KernelIdeal.nD) : Runs.Ok (m' ((c.tc : Thread Cert.ReferenceIdeal.nD Cert.ReferenceIdeal.τ).loc
      Cert.ReferenceIdeal.main_arg1)) := by
    rw [(hargs c).2]
    exact ok c
  have same (c : Dev Cert.KernelIdeal.nD) : Cert.ReferenceIdeal.Value.res_main_v22 m' c
      = Energies.answer (ok c) (m ((c.tc : Thread Cert.KernelIdeal.nD Cert.KernelIdeal.τ).loc Cert.KernelIdeal.main_arg0)) :=
    (RefValue.result m' c (ok' c)).trans (answer_congr (ok' c) (ok c) (hargs c).2 (hargs c).1)
  refine ⟨fun c => Energies.answer (ok c) (m ((c.tc : Thread Cert.KernelIdeal.nD Cert.KernelIdeal.τ).loc
      Cert.KernelIdeal.main_arg0)), fun c => Energies.answer (ok c) (m ((c.tc : Thread Cert.KernelIdeal.nD
      Cert.KernelIdeal.τ).loc Cert.KernelIdeal.main_arg0)), ?_, ?_⟩
  · refine (θ_run Cert.KernelIdeal.defs _ _).mono (fun r h c => ?_) (Cert.KernelIdeal.Value.run_blocks m g)
    obtain ⟨h6, h7, h0, h1⟩ := h c
    exact ⟨h6.trans (KernelArray.array6 m c (ok c)), h7.trans (KernelArray.array7 m c (ok c)), h0, h1⟩
  · refine (θ_run Cert.ReferenceIdeal.defs _ _).mono (fun r h c => ?_) (Cert.ReferenceIdeal.Value.run m' g')
    obtain ⟨h2, h3, h0, h1⟩ := h c
    exact ⟨h2.trans (same c), h3.trans (same c), h0, h1⟩

/-- The claims: five frames, the idealization, and the equality of the results. -/
theorem claim : Cert.Claim :=
  ⟨Cert.Kernel.Gen.facts, Cert.KernelIdeal.Gen.facts, Cert.ReferenceIdeal.Gen.facts, preFacts,
    fun m g _ => Cert.Kernel.Gen.frame m g, fun m g _ => Cert.KernelIdeal.Gen.frame m g,
    fun m g _ => Cert.KernelIdeal.Gen.frame m g, fun m g _ => reference_frame m g, fun m g _ => reference_frame m g,
    trivial, @same_results preFacts⟩

end Cert.Proof

end
